-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x1024 : Shape := ⟨2, ![16384, 1024]⟩
abbrev S16384 : Shape := ⟨1, ![16384]⟩
abbrev S1x1024 : Shape := ⟨2, ![1, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S16384x1024 .f32) (main_arg1 : IVec S16384 32) (main_arg2 : FVec F S1x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  main_v8
-- ==== Kernel.lean ====
abbrev S16384x1024 : Shape := ⟨2, ![16384, 1024]⟩
abbrev S16384 : Shape := ⟨1, ![16384]⟩
abbrev S1x1024 : Shape := ⟨2, ![1, 1024]⟩
abbrev S8x1x2048 : Shape := ⟨3, ![8, 1, 2048]⟩
abbrev S16x1024 : Shape := ⟨2, ![16, 1024]⟩
abbrev S1x1x2048 : Shape := ⟨3, ![1, 1, 2048]⟩
abbrev S2048x512 : Shape := ⟨2, ![2048, 512]⟩
abbrev S2x2048x1024 : Shape := ⟨3, ![2, 2048, 1024]⟩
abbrev S2x16x2048 : Shape := ⟨3, ![2, 16, 2048]⟩
abbrev S2x1 : Shape := ⟨2, ![2, 1]⟩
abbrev S1x1 : Shape := ⟨2, ![1, 1]⟩
abbrev S16x1 : Shape := ⟨2, ![16, 1]⟩
abbrev S1x2048 : Shape := ⟨2, ![1, 2048]⟩
abbrev S1x2048x512 : Shape := ⟨3, ![1, 2048, 512]⟩
abbrev S1x512 : Shape := ⟨2, ![1, 512]⟩
abbrev S1 : Shape := ⟨1, ![1]⟩
abbrev S1x1x1 : Shape := ⟨3, ![1, 1, 1]⟩
abbrev S16x2048 : Shape := ⟨2, ![16, 2048]⟩
abbrev S1x16x2048 : Shape := ⟨3, ![1, 16, 2048]⟩
abbrev S1x2048x1024 : Shape := ⟨3, ![1, 2048, 1024]⟩
abbrev S2048x1024 : Shape := ⟨2, ![2048, 1024]⟩
abbrev S2048x1 : Shape := ⟨2, ![2048, 1]⟩

abbrev nBuf : Space → Nat
  | .hbm => 6
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1x1024, .f32⟩
  | .hbm, ⟨3, _⟩ => ⟨S8x1x2048, .i32⟩
  | .hbm, ⟨4, _⟩ => ⟨S1x1024, .bf16⟩
  | .hbm, ⟨5, _⟩ => ⟨S16x1024, .f32⟩
  | .local _ .vmem, ⟨0, _⟩ => ⟨S1x1x2048, .i32⟩
  | .local _ .vmem, ⟨1, _⟩ => ⟨S1x1x2048, .i32⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1x1024, .bf16⟩
  | .local _ .vmem, ⟨7, _⟩ => ⟨S16x1024, .f32⟩
  | .local _ .vmem, ⟨8, _⟩ => ⟨S2x2048x1024, .bf16⟩
  | .local _ .vmem, ⟨9, _⟩ => ⟨S2x16x2048, .bf16⟩
  | .local _ .vmem, ⟨10, _⟩ => ⟨S2x1, .f32⟩
  | .local _ .vmem, ⟨11, _⟩ => ⟨S1x1, .f32⟩
  | .local _ .vmem, ⟨12, _⟩ => ⟨S16x1, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v5 : BitVec 1 := Scalar.cmpi .slt arg0 c8_i32
  let v6 : BitVec 32 := Scalar.extui v5
  let c0_i32_1 : BitVec 32 := 0#32
  let v7 : BitVec 1 := Scalar.cmpi .ne v6 c0_i32_1
  v7

def k0_off1 (i : grid0.Coords) : Fin 3 → Nat :=
  let arg0 : BitVec 32 := BitVec.ofNat 32 (i 0).val
  let c2_i32 : BitVec 32 := 2#32
  let v0 : BitVec 32 := Scalar.remsi arg0 c2_i32
  let v22 : Index := Scalar.indexCast v0
  let c0_14 : Index := 0#32
  let c0_15 : Index := 0#32
  ![v22.toNat, 0, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let v26 : Index := Scalar.indexCast v0
  let c0_16 : Index := 0#32
  let c512 : Index := 512#32
  ![v26.toNat, 0, 512]
def k0_off3 (i : grid0.Coords) : Fin 2 → Nat :=
  let arg0 : BitVec 32 := BitVec.ofNat 32 (i 0).val
  let c2_i32 : BitVec 32 := 2#32
  let v0 : BitVec 32 := Scalar.remsi arg0 c2_i32
  let v40 : Index := Scalar.indexCast v0
  let c0_19 : Index := 0#32
  ![v40.toNat, 0]
def k0_off4 (i : grid0.Coords) : Fin 3 → Nat :=
  let arg0 : BitVec 32 := BitVec.ofNat 32 (i 0).val
  let c2_i32 : BitVec 32 := 2#32
  let v0 : BitVec 32 := Scalar.remsi arg0 c2_i32
  let v55 : Index := Scalar.indexCast v0
  let c0_21 : Index := 0#32
  let c0_22 : Index := 0#32
  ![v55.toNat, 0, 0]
def k0_cond3 (i : grid0.Coords) : BitVec 1 :=
  let arg0 : BitVec 32 := BitVec.ofNat 32 (i 0).val
  let c0_i32_2 : BitVec 32 := 0#32
  let v8 : BitVec 1 := Scalar.cmpi .sgt arg0 c0_i32_2
  let v9 : BitVec 32 := Scalar.extui v8
  let c0_i32_3 : BitVec 32 := 0#32
  let v10 : BitVec 1 := Scalar.cmpi .ne v9 c0_i32_3
  v10

def k0_off5 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v14 : Index := Scalar.indexCast v1
  let c0 : Index := 0#32
  let c0_6 : Index := 0#32
  ![v14.toNat, 0, 0]
def k0_off6 (i : grid0.Coords) : Fin 3 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v17 : Index := Scalar.indexCast v1
  let c0_7 : Index := 0#32
  let c0_8 : Index := 0#32
  ![v17.toNat, 0, 0]
def k0_off7 (i : grid0.Coords) : Fin 2 → Nat :=
  let c1_i32 : BitVec 32 := 1#32
  let arg0 : BitVec 32 := BitVec.ofNat 32 (i 0).val
  let c2_i32 : BitVec 32 := 2#32
  let v0 : BitVec 32 := Scalar.remsi arg0 c2_i32
  let v1 : BitVec 32 := Scalar.subi c1_i32 v0
  let v20 : Index := Scalar.indexCast v1
  let c0_9 : Index := 0#32
  ![v20.toNat, 0]
def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_cond4 (i : grid0.Coords) : BitVec 1 :=
  let arg0 : BitVec 32 := BitVec.ofNat 32 (i 0).val
  let c8_i32_4 : BitVec 32 := 8#32
  let v11 : BitVec 1 := Scalar.cmpi .eq arg0 c8_i32_4
  let v12 : BitVec 32 := Scalar.extui v11
  let c0_i32_5 : BitVec 32 := 0#32
  let v13 : BitVec 1 := Scalar.cmpi .ne v12 c0_i32_5
  v13

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c1_i32 : BitVec 32 := 1#32
  let c0_i32 : BitVec 32 := 0#32
  ![v0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16384x1024 : Shape := ⟨2, ![16384, 1024]⟩
abbrev S16384 : Shape := ⟨1, ![16384]⟩
abbrev S1x1024 : Shape := ⟨2, ![1, 1024]⟩
abbrev S1024x1 : Shape := ⟨2, ![1024, 1]⟩
abbrev S16384x1 : Shape := ⟨2, ![16384, 1]⟩
abbrev S1x16384 : Shape := ⟨2, ![1, 16384]⟩
abbrev S16 : Shape := ⟨1, ![16]⟩
abbrev S16x1 : Shape := ⟨2, ![16, 1]⟩
abbrev S16x16384 : Shape := ⟨2, ![16, 16384]⟩
abbrev S_ : Shape := ⟨0, ![]⟩
abbrev S16x1024 : Shape := ⟨2, ![16, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384, .i32⟩
  | .hbm, ⟨2, _⟩ => ⟨S1x1024, .f32⟩
  | .hbm, ⟨3, _⟩ => ⟨S1024x1, .f32⟩
  | .hbm, ⟨4, _⟩ => ⟨S16384x1, .f32⟩
  | .hbm, ⟨5, _⟩ => ⟨S16384, .f32⟩
  | .hbm, ⟨6, _⟩ => ⟨S1x16384, .i32⟩
  | .hbm, ⟨7, _⟩ => ⟨S16, .i32⟩
  | .hbm, ⟨8, _⟩ => ⟨S16x1, .i32⟩
  | .hbm, ⟨9, _⟩ => ⟨S16x16384, .i32⟩
  | .hbm, ⟨10, _⟩ => ⟨S16x16384, .i32⟩
  | .hbm, ⟨11, _⟩ => ⟨S16x16384, .i1⟩
  | .hbm, ⟨12, _⟩ => ⟨S1x16384, .f32⟩
  | .hbm, ⟨13, _⟩ => ⟨S_, .f32⟩
  | .hbm, ⟨14, _⟩ => ⟨S_, .f32⟩
  | .hbm, ⟨15, _⟩ => ⟨S16x16384, .f32⟩
  | .hbm, ⟨16, _⟩ => ⟨S16x16384, .f32⟩
  | .hbm, ⟨17, _⟩ => ⟨S16x16384, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .i1⟩
  | .hbm, ⟨24, _⟩ => ⟨S_, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S16384, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S16, .f32⟩
  | .hbm, ⟨41, _⟩ => ⟨S16384x1, .i32⟩
  | .hbm, ⟨42, _⟩ => ⟨S16, .f32⟩
  | .hbm, ⟨43, _⟩ => ⟨S_, .i32⟩
  | .hbm, ⟨44, _⟩ => ⟨S16384, .i32⟩
  | .hbm, ⟨45, _⟩ => ⟨S16384, .i1⟩
  | .hbm, ⟨46, _⟩ => ⟨S_, .i32⟩
  | .hbm, ⟨47, _⟩ => ⟨S16384, .i32⟩
  | .hbm, ⟨48, _⟩ => ⟨S16384, .i32⟩
  | .hbm, ⟨49, _⟩ => ⟨S16384, .i32⟩
  | .hbm, ⟨50, _⟩ => ⟨S16384x1, .i32⟩
  | .hbm, ⟨51, _⟩ => ⟨S16384, .f32⟩
  | .hbm, ⟨52, _⟩ => ⟨S16384, .f32⟩
  | .hbm, ⟨53, _⟩ => ⟨S16384x1, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16x1024, .f32⟩
  | .hbm, ⟨58, _⟩ => ⟨S16384x1, .i32⟩
  | .hbm, ⟨59, _⟩ => ⟨S16x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Proof.KernelIdeal.Slots.lean ====
/- The two-slot scratch buffers of the pooling kernel, read slot by slot. A buffer of the scratch has a leading axis of
   two: the kernel stages a block of rows in one slot and pools the other. This module says what one slot holds
   (`slotX`, `slotE`, `slotB`), what a slot holds after it is stored, and that a store in a slot leaves the other. -/
module

public import proofs.«01_k».proof.Proof.Gen.KernelIdeal.Frame
public import proofs.«01_k».proof.Proof.Gen.KernelIdeal.Skeleton
public import Idealize.ShloMosaic.Lib.VecWindow
public import Idealize.ShloMosaic.Lib.WholeRead
public import Idealize.ShloMosaic.Lib.ValueIdxCore

@[expose] public section

set_option maxRecDepth 16384

noncomputable section

namespace Cert.KernelIdeal.Run

open Idealize.ShloMosaic Idealize.ShloMosaic.TcCoe
open Cert.KernelIdeal Cert.KernelIdeal.Gen
open Idealize.ShloMosaic.VecWindow (window put)
open Idealize.ShloMosaic.ValueIdx (ix3)

variable {F : FTy → Type} [FloatOps F]

/-- A slot of the staged rows lies inside their buffer. -/
theorem slotX_inb (s : Fin 2) : ∀ a, (![s.val, 0, 0] : Fin 3 → ℕ) a + S1x2048x1024.size a ≤ S2x2048x1024.size a := by
  revert s; decide
/-- A slot of the staged weights lies inside their buffer. -/
theorem slotE_inb (s : Fin 2) : ∀ a, (![s.val, 0, 0] : Fin 3 → ℕ) a + S1x16x2048.size a ≤ S2x16x2048.size a := by
  revert s; decide
/-- A slot of the staged block maxima lies inside their buffer. -/
theorem slotB_inb (s : Fin 2) : ∀ a, (![s.val, 0] : Fin 2 → ℕ) a + S1x1.size a ≤ S2x1.size a := by
  revert s; decide

/-- The rows staged in slot `s`. -/
def slotX (x : Vec F S2x2048x1024 .bf16) (s : Fin 2) : Vec F S1x2048x1024 .bf16 :=
  window x ![s.val, 0, 0] S1x2048x1024.size (slotX_inb s)
/-- The weights staged in slot `s`. -/
def slotE (x : Vec F S2x16x2048 .bf16) (s : Fin 2) : Vec F S1x16x2048 .bf16 :=
  window x ![s.val, 0, 0] S1x16x2048.size (slotE_inb s)
/-- The block maximum staged in slot `s`. -/
def slotB (x : Vec F S2x1 .f32) (s : Fin 2) : Vec F S1x1 .f32 :=
  window x ![s.val, 0] S1x1.size (slotB_inb s)

/-- Two halves of the columns side by side: columns below 512 from the first, the others from the second. -/
def beside (a b : Vec F S1x2048x512 .bf16) : Vec F S1x2048x1024 .bf16 := fun y =>
  if h : (y 2).val < 512 then a (ix3 (n0 := 1) (n1 := 2048) (n2 := 512) (y 0) (y 1) ⟨(y 2).val, h⟩)
  else b (ix3 (n0 := 1) (n1 := 2048) (n2 := 512) (y 0) (y 1) ⟨(y 2).val - 512, by have : (y 2).val < 1024 := (y 2).isLt; omega⟩)

/-- A slot stored half by half holds the two halves side by side. -/
theorem slotX_put (x : Vec F S2x2048x1024 .bf16) (s : Fin 2) (a b : Vec F S1x2048x512 .bf16) :
    slotX (put (put x ![s.val, 0, 0] S1x2048x512.size a) ![s.val, 0, 512] S1x2048x512.size b) s = beside a b := by
  funext y
  have y0 : (y 0).val < 1 := (y 0).isLt
  have y1 : (y 1).val < 2048 := (y 1).isLt
  have y2 : (y 2).val < 1024 := (y 2).isLt
  have e : ∀ d, (((Rect.unit (s := S2x2048x1024) ![s.val, 0, 0] S1x2048x1024.size (slotX_inb s)).emb y) d).val = (![s.val, 0, 0] : Fin 3 → ℕ) d + 1 * (y d).val := fun _ => rfl
  unfold slotX window beside
  by_cases h : (y 2).val < 512
  · rw [dif_pos h]
    unfold put
    rw [dif_neg (fun H => by
      have := (H 2).1
      rw [e] at this
      simp at this
      omega), dif_pos (fun d => by
      rw [e]
      fin_cases d <;> simp [S1x2048x512] <;> omega)]
    refine congrArg a (funext fun d => Fin.ext ?_)
    fin_cases d <;> simp [Rect.unitLocal_val, e]
  · rw [dif_neg h]
    unfold put
    rw [dif_pos (fun d => by
      rw [e]
      fin_cases d <;> simp [S1x2048x512] <;> omega)]
    refine congrArg b (funext fun d => Fin.ext ?_)
    fin_cases d <;> simp [Rect.unitLocal_val, e]

/-- A store in one slot of the staged rows leaves the other. -/
theorem slotX_put_other (x : Vec F S2x2048x1024 .bf16) (s r : Fin 2) (h : r ≠ s) (a b : Vec F S1x2048x512 .bf16) :
    slotX (put (put x ![s.val, 0, 0] S1x2048x512.size a) ![s.val, 0, 512] S1x2048x512.size b) r = slotX x r := by
  have hv : r.val + 1 ≤ s.val ∨ s.val + 1 ≤ r.val := by
    have : r.val ≠ s.val := fun e => h (Fin.ext e)
    omega
  unfold slotX
  rw [VecWindow.window_put_of_disjoint _ _ _ _ _ _ _ (0 : Fin 3) hv, VecWindow.window_put_of_disjoint _ _ _ _ _ _ _ (0 : Fin 3) hv]

/-- A store in one slot of the staged weights leaves the other. -/
theorem slotE_put_other (x : Vec F S2x16x2048 .bf16) (s r : Fin 2) (h : r ≠ s) (a : Vec F S1x16x2048 .bf16) :
    slotE (put x ![s.val, 0, 0] S1x16x2048.size a) r = slotE x r := by
  have hv : r.val + 1 ≤ s.val ∨ s.val + 1 ≤ r.val := by
    have : r.val ≠ s.val := fun e => h (Fin.ext e)
    omega
  unfold slotE
  rw [VecWindow.window_put_of_disjoint _ _ _ _ _ _ _ (0 : Fin 3) hv]

/-- A store in one slot of the staged block maxima leaves the other. -/
theorem slotB_put_other (x : Vec F S2x1 .f32) (s r : Fin 2) (h : r ≠ s) (a : Vec F S1x1 .f32) :
    slotB (put x ![s.val, 0] S1x1.size a) r = slotB x r := by
  have hv : r.val + 1 ≤ s.val ∨ s.val + 1 ≤ r.val := by
    have : r.val ≠ s.val := fun e => h (Fin.ext e)
    omega
  unfold slotB
  rw [VecWindow.window_put_of_disjoint _ _ _ _ _ _ _ (0 : Fin 2) hv]

/-! ## Loads and stores of a memref, slot by slot -/

section Access

variable {κ : Kind} {sp : Space}

/-- A load of slot `r` reads what the buffer's slot `r` holds. -/
theorem loadX (m : Memref sig κ sp S2x2048x1024 .bf16) (f : m.view.ty.Contents (Elt F)) {off : Fin 3 → ℕ} (r : Fin 2) (ho : off = ![r.val, 0, 0])
    (inb : ∀ a, off a + S1x2048x1024.size a ≤ S2x2048x1024.size a) :
    m.view.readAt (Elt F) (Rect.unit (s := S2x2048x1024) off S1x2048x1024.size inb).toLoadRect f = slotX (m.view.read (Elt F) f) r :=
  View.readAt_unit _ _ _ ho (slotX_inb r)

/-- A load of slot `r` reads what the buffer's slot `r` holds. -/
theorem loadE (m : Memref sig κ sp S2x16x2048 .bf16) (f : m.view.ty.Contents (Elt F)) {off : Fin 3 → ℕ} (r : Fin 2) (ho : off = ![r.val, 0, 0])
    (inb : ∀ a, off a + S1x16x2048.size a ≤ S2x16x2048.size a) :
    m.view.readAt (Elt F) (Rect.unit (s := S2x16x2048) off S1x16x2048.size inb).toLoadRect f = slotE (m.view.read (Elt F) f) r :=
  View.readAt_unit _ _ _ ho (slotE_inb r)

/-- A load of slot `r` reads what the buffer's slot `r` holds. -/
theorem loadB (m : Memref sig κ sp S2x1 .f32) (f : m.view.ty.Contents (Elt F)) {off : Fin 2 → ℕ} (r : Fin 2) (ho : off = ![r.val, 0])
    (inb : ∀ a, off a + S1x1.size a ≤ S2x1.size a) :
    m.view.readAt (Elt F) (Rect.unit (s := S2x1) off S1x1.size inb).toLoadRect f = slotB (m.view.read (Elt F) f) r :=
  View.readAt_unit _ _ _ ho (slotB_inb r)

/-- The staged rows after a block's two half stores in slot `s`. -/
theorem storedX (m : Memref sig κ sp S2x2048x1024 .bf16) (hm : m.IsWhole) (x : Vec F S2x2048x1024 .bf16) {off1 off2 : Fin 3 → ℕ} (s : Fin 2)
    (h1 : off1 = ![s.val, 0, 0]) (h2 : off2 = ![s.val, 0, 512])
    (inb1 : ∀ a, off1 a + S1x2048x512.size a ≤ S2x2048x1024.size a) (inb2 : ∀ a, off2 a + S1x2048x512.size a ≤ S2x2048x1024.size a) (a b : Vec F S1x2048x512 .bf16) :
    m.view.read (Elt F) (m.view.writes (Elt F) (hm.unread x)
        [⟨Rect.unit (s := S2x2048x1024) off2 S1x2048x512.size inb2, b⟩, ⟨Rect.unit (s := S2x2048x1024) off1 S1x2048x512.size inb1, a⟩])
      = put (put x ![s.val, 0, 0] S1x2048x512.size a) ![s.val, 0, 512] S1x2048x512.size b := by
  rw [View.read_writes_cons_put _ _ _ _ _ h2, View.read_writes_cons_put _ _ _ _ _ h1, View.writes_nil, hm.read_unread]

/-- The staged weights after a block's store in slot `s`. -/
theorem storedE (m : Memref sig κ sp S2x16x2048 .bf16) (hm : m.IsWhole) (x : Vec F S2x16x2048 .bf16) {off : Fin 3 → ℕ} (s : Fin 2)
    (h : off = ![s.val, 0, 0]) (inb : ∀ a, off a + S1x16x2048.size a ≤ S2x16x2048.size a) (a : Vec F S1x16x2048 .bf16) :
    m.view.read (Elt F) (m.view.writes (Elt F) (hm.unread x) [⟨Rect.unit (s := S2x16x2048) off S1x16x2048.size inb, a⟩])
      = put x ![s.val, 0, 0] S1x16x2048.size a := by
  rw [View.read_writes_cons_put _ _ _ _ _ h, View.writes_nil, hm.read_unread]

/-- The staged block maxima after a block's store in slot `s`. -/
theorem storedB (m : Memref sig κ sp S2x1 .f32) (hm : m.IsWhole) (x : Vec F S2x1 .f32) {off : Fin 2 → ℕ} (s : Fin 2)
    (h : off = ![s.val, 0]) (inb : ∀ a, off a + S1x1.size a ≤ S2x1.size a) (a : Vec F S1x1 .f32) :
    m.view.read (Elt F) (m.view.writes (Elt F) (hm.unread x) [⟨Rect.unit (s := S2x1) off S1x1.size inb, a⟩])
      = put x ![s.val, 0] S1x1.size a := by
  rw [View.read_writes_cons_put _ _ _ _ _ h, View.writes_nil, hm.read_unread]

end Access

/-! ## The slots of a grid point -/

/-- The slot a point stages its block in. -/
def cur (i : grid0.Coords) : Fin 2 := ⟨(i 0).val % 2, Nat.mod_lt _ (by decide)⟩
/-- The slot a point pools: the other one. -/
def oth (i : grid0.Coords) : Fin 2 := ⟨1 - (i 0).val % 2, by omega⟩

/-- The two slots of a point differ. -/
theorem oth_ne_cur (i : grid0.Coords) : oth i ≠ cur i := fun h => by
  have : 1 - (i 0).val % 2 = (i 0).val % 2 := congrArg Fin.val h
  omega

/-- The printed offsets of the accesses are those of the slots. -/
theorem off1_eq : ∀ i : grid0.Coords, k0_off1 i = ![(cur i).val, 0, 0] := by decide +kernel
theorem off2_eq : ∀ i : grid0.Coords, k0_off2 i = ![(cur i).val, 0, 512] := by decide +kernel
theorem off3_eq : ∀ i : grid0.Coords, k0_off3 i = ![(cur i).val, 0] := by decide +kernel
theorem off4_eq : ∀ i : grid0.Coords, k0_off4 i = ![(cur i).val, 0, 0] := by decide +kernel
theorem off5_eq : ∀ i : grid0.Coords, k0_off5 i = ![(oth i).val, 0, 0] := by decide +kernel
theorem off6_eq : ∀ i : grid0.Coords, k0_off6 i = ![(oth i).val, 0, 0] := by decide +kernel
theorem off7_eq : ∀ i : grid0.Coords, k0_off7 i = ![(oth i).val, 0] := by decide +kernel

/-! ## What a block stages -/

/-- The rows a block stages, its two column halves side by side. -/
def rowsOf (xa xb : Vec F S2048x512 .f32) : Vec F S1x2048x1024 .bf16 := beside (k0_pay8 xa) (k0_pay9 xb)
/-- The weights a block stages: the exponentials of its scores under the block's maximum, row by segment. -/
def weightsOf (ids : Vec F S1x1x2048 .i32) (w : Vec F S1x1024 .bf16) (xa xb : Vec F S2048x512 .f32) : Vec F S1x16x2048 .bf16 :=
  k0_pay4 (k0_pay13 (F := F) ids) (k0_pay14 w xa xb) k0_pay15
/-- The block maximum a block stages. -/
def blockMax (w : Vec F S1x1024 .bf16) (xa xb : Vec F S2048x512 .f32) : Vec F S1x1 .f32 := k0_pay12 w xa xb

end Cert.KernelIdeal.Run

end
-- ==== Proof.KernelIdeal.RunFirst.lean ====
/- The kernel body at the first grid point. -/
module

public import proofs.«01_k».proof.Proof.KernelIdeal.Slots

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S1x1x2048 .i32) (harg1 : arg1.IsWhole) (arg2 : Memref sig .tc .vmem S2048x512 .f32) (harg2 : arg2.IsWhole)
  (arg3 : Memref sig .tc .vmem S2048x512 .f32) (harg3 : arg3.IsWhole) (arg4 : Memref sig .tc .vmem S1x1024 .bf16) (harg4 : arg4.IsWhole)
  (arg5 : Memref sig .tc .vmem S16x1024 .f32) (harg5 : arg5.IsWhole) (arg6 : Memref sig .tc .vmem S2x2048x1024 .bf16) (harg6 : arg6.IsWhole)
  (arg7 : Memref sig .tc .vmem S2x16x2048 .bf16) (harg7 : arg7.IsWhole) (arg8 : Memref sig .tc .vmem S2x1 .f32) (harg8 : arg8.IsWhole)
  (arg9 : Memref sig .tc .vmem S1x1 .f32) (harg9 : arg9.IsWhole) (arg10 : Memref sig .tc .vmem S16x1 .f32) (harg10 : arg10.IsWhole)
  (x1 : Vec F S1x1x2048 .i32) (x2 x3 : Vec F S2048x512 .f32) (x4 : Vec F S1x1024 .bf16) (x5 : Vec F S16x1024 .f32)
  (x6 : Vec F S2x2048x1024 .bf16) (x7 : Vec F S2x16x2048 .bf16) (x8 : Vec F S2x1 .f32) (x9 : Vec F S1x1 .f32) (x10 : Vec F S16x1 .f32)

set_option maxHeartbeats 1000000 in
/-- The first point: the body sets the running maximum and sums to their start values and stages the first block. -/
theorem run_first (h1 : k0_cond1 i = 1#1) (h2 : k0_cond2 i = 1#1) (h3 : ¬ k0_cond3 i = 1#1) (h4 : ¬ k0_cond4 i = 1#1)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k0_pay3 (F := F))
    ∗ (∃ z, ⌜slotX z (cur i) = rowsOf x2 x3⌝ ∗ owns (c : Thread nD τ) arg6 fullShare z) ∗ (∃ z, ⌜slotE z (cur i) = weightsOf x1 x4 x2 x3⌝ ∗ owns (c : Thread nD τ) arg7 fullShare z) ∗ (∃ z, ⌜slotB z (cur i) = blockMax x4 x2 x3⌝ ∗ owns (c : Thread nD τ) arg8 fullShare z)
    ∗ owns (c : Thread nD τ) arg9 fullShare (k0_pay1 (F := F)) ∗ owns (c : Thread nD τ) arg10 fullShare (k0_pay2 (F := F))) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9 arg10 harg10) K := by
  simp only [cc0__pool_kernel_eq_skeleton]; unfold cc0__pool_kernel_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_full]
  isplitl [H6]
  · iexists _; isplitr
    swap
    · iexists _; isplitr
      swap; · iexact H6
      ipureintro
      rfl
    ipureintro
    sl_unfold_run_names
    rw [storedX arg6 harg6 x6 (cur i) (off1_eq i) (off2_eq i), slotX_put]
    rw [View.readAt_full arg2.view, harg2.read_unread, View.readAt_full arg3.view, harg3.read_unread]
    rfl
  isplitl [H7]
  · iexists _; isplitr
    swap
    · iexists _; isplitr
      swap; · iexact H7
      ipureintro
      rfl
    ipureintro
    sl_unfold_run_names
    rw [storedE arg7 harg7 x7 (cur i) (off4_eq i)]
    unfold slotE
    rw [VecWindow.window_put_same]
    rw [View.readAt_full arg1.view, harg1.read_unread, View.readAt_full arg2.view, harg2.read_unread, View.readAt_full arg3.view, harg3.read_unread, View.readAt_full arg4.view, harg4.read_unread]
    rfl
  isplitl [H8]
  · iexists _; isplitr
    swap
    · iexists _; isplitr
      swap; · iexact H8
      ipureintro
      rfl
    ipureintro
    sl_unfold_run_names
    rw [storedB arg8 harg8 x8 (cur i) (off3_eq i)]
    unfold slotB
    rw [VecWindow.window_put_same]
    rw [View.readAt_full arg2.view, harg2.read_unread, View.readAt_full arg3.view, harg3.read_unread, View.readAt_full arg4.view, harg4.read_unread]
    rfl
  isplitl [H9]
  · iexists _; isplitr
    swap; · iexact H9
    ipureintro
    sl_unfold_run_names
    rw [View.read_writes_full]
  iexists _; isplitr
  swap; · iexact H10
  ipureintro
  sl_unfold_run_names
  rw [View.read_writes_full]

end Cert.KernelIdeal.Run

end
-- ==== Proof.KernelIdeal.RunMid.lean ====
/- The kernel body at a grid point between the first and the last. -/
module

public import proofs.«01_k».proof.Proof.KernelIdeal.Slots

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S1x1x2048 .i32) (harg1 : arg1.IsWhole) (arg2 : Memref sig .tc .vmem S2048x512 .f32) (harg2 : arg2.IsWhole)
  (arg3 : Memref sig .tc .vmem S2048x512 .f32) (harg3 : arg3.IsWhole) (arg4 : Memref sig .tc .vmem S1x1024 .bf16) (harg4 : arg4.IsWhole)
  (arg5 : Memref sig .tc .vmem S16x1024 .f32) (harg5 : arg5.IsWhole) (arg6 : Memref sig .tc .vmem S2x2048x1024 .bf16) (harg6 : arg6.IsWhole)
  (arg7 : Memref sig .tc .vmem S2x16x2048 .bf16) (harg7 : arg7.IsWhole) (arg8 : Memref sig .tc .vmem S2x1 .f32) (harg8 : arg8.IsWhole)
  (arg9 : Memref sig .tc .vmem S1x1 .f32) (harg9 : arg9.IsWhole) (arg10 : Memref sig .tc .vmem S16x1 .f32) (harg10 : arg10.IsWhole)
  (x1 : Vec F S1x1x2048 .i32) (x2 x3 : Vec F S2048x512 .f32) (x4 : Vec F S1x1024 .bf16) (x5 : Vec F S16x1024 .f32)
  (x6 : Vec F S2x2048x1024 .bf16) (x7 : Vec F S2x16x2048 .bf16) (x8 : Vec F S2x1 .f32) (x9 : Vec F S1x1 .f32) (x10 : Vec F S16x1 .f32)

set_option maxHeartbeats 1000000 in
/-- A point that is neither the first nor the last: the body stages the point's block in its slot and adds the block staged in the other slot to the running sums, whatever the other slot holds. -/
theorem run_mid (h1 : ¬ k0_cond1 i = 1#1) (h2 : k0_cond2 i = 1#1) (h3 : k0_cond3 i = 1#1) (h4 : ¬ k0_cond4 i = 1#1)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k0_pay22 (slotE x7 (oth i)) (slotX x6 (oth i)) (slotB x8 (oth i)) x9 x5)
    ∗ (∃ z, ⌜slotX z (cur i) = rowsOf x2 x3⌝ ∗ owns (c : Thread nD τ) arg6 fullShare z) ∗ (∃ z, ⌜slotE z (cur i) = weightsOf x1 x4 x2 x3⌝ ∗ owns (c : Thread nD τ) arg7 fullShare z) ∗ (∃ z, ⌜slotB z (cur i) = blockMax x4 x2 x3⌝ ∗ owns (c : Thread nD τ) arg8 fullShare z)
    ∗ owns (c : Thread nD τ) arg9 fullShare (k0_pay20 (slotB x8 (oth i)) x9) ∗ owns (c : Thread nD τ) arg10 fullShare (k0_pay21 (slotE x7 (oth i)) (slotB x8 (oth i)) x9 x10)) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9 arg10 harg10) K := by
  simp only [cc0__pool_kernel_eq_skeleton]; unfold cc0__pool_kernel_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_full, loadE _ _ (oth i) (off5_eq i), storedE arg7 harg7 x7 (cur i) (off4_eq i), slotE_put_other _ _ _ (oth_ne_cur i), loadX _ _ (oth i) (off6_eq i), storedX arg6 harg6 x6 (cur i) (off1_eq i) (off2_eq i), slotX_put_other _ _ _ (oth_ne_cur i), loadB _ _ (oth i) (off7_eq i), storedB arg8 harg8 x8 (cur i) (off3_eq i), slotB_put_other _ _ _ (oth_ne_cur i)]
    rw [View.readAt_full arg5.view, harg5.read_unread, View.readAt_full arg9.view, harg9.read_unread]
  isplitl [H6]
  · iexists _; isplitr
    swap
    · iexists _; isplitr
      swap; · iexact H6
      ipureintro
      rfl
    ipureintro
    sl_unfold_run_names
    rw [storedX arg6 harg6 x6 (cur i) (off1_eq i) (off2_eq i), slotX_put]
    rw [View.readAt_full arg2.view, harg2.read_unread, View.readAt_full arg3.view, harg3.read_unread]
    rfl
  isplitl [H7]
  · iexists _; isplitr
    swap
    · iexists _; isplitr
      swap; · iexact H7
      ipureintro
      rfl
    ipureintro
    sl_unfold_run_names
    rw [storedE arg7 harg7 x7 (cur i) (off4_eq i)]
    unfold slotE
    rw [VecWindow.window_put_same]
    rw [View.readAt_full arg1.view, harg1.read_unread, View.readAt_full arg2.view, harg2.read_unread, View.readAt_full arg3.view, harg3.read_unread, View.readAt_full arg4.view, harg4.read_unread]
    rfl
  isplitl [H8]
  · iexists _; isplitr
    swap
    · iexists _; isplitr
      swap; · iexact H8
      ipureintro
      rfl
    ipureintro
    sl_unfold_run_names
    rw [storedB arg8 harg8 x8 (cur i) (off3_eq i)]
    unfold slotB
    rw [VecWindow.window_put_same]
    rw [View.readAt_full arg2.view, harg2.read_unread, View.readAt_full arg3.view, harg3.read_unread, View.readAt_full arg4.view, harg4.read_unread]
    rfl
  isplitl [H9]
  · iexists _; isplitr
    swap; · iexact H9
    ipureintro
    sl_unfold_run_names
    rw [View.read_writes_full, loadB _ _ (oth i) (off7_eq i), storedB arg8 harg8 x8 (cur i) (off3_eq i), slotB_put_other _ _ _ (oth_ne_cur i)]
    rw [View.readAt_full arg9.view, harg9.read_unread]
  iexists _; isplitr
  swap; · iexact H10
  ipureintro
  sl_unfold_run_names
  rw [View.read_writes_full, loadE _ _ (oth i) (off5_eq i), storedE arg7 harg7 x7 (cur i) (off4_eq i), slotE_put_other _ _ _ (oth_ne_cur i), loadB _ _ (oth i) (off7_eq i), storedB arg8 harg8 x8 (cur i) (off3_eq i), slotB_put_other _ _ _ (oth_ne_cur i)]
  rw [View.readAt_full arg9.view, harg9.read_unread, View.readAt_full arg10.view, harg10.read_unread]

end Cert.KernelIdeal.Run

end
-- ==== Proof.KernelIdeal.RunLast.lean ====
/- The kernel body at the last grid point. -/
module

public import proofs.«01_k».proof.Proof.KernelIdeal.Slots

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (c : Dev nD) (i : grid0.Coords)
  (arg1 : Memref sig .tc .vmem S1x1x2048 .i32) (harg1 : arg1.IsWhole) (arg2 : Memref sig .tc .vmem S2048x512 .f32) (harg2 : arg2.IsWhole)
  (arg3 : Memref sig .tc .vmem S2048x512 .f32) (harg3 : arg3.IsWhole) (arg4 : Memref sig .tc .vmem S1x1024 .bf16) (harg4 : arg4.IsWhole)
  (arg5 : Memref sig .tc .vmem S16x1024 .f32) (harg5 : arg5.IsWhole) (arg6 : Memref sig .tc .vmem S2x2048x1024 .bf16) (harg6 : arg6.IsWhole)
  (arg7 : Memref sig .tc .vmem S2x16x2048 .bf16) (harg7 : arg7.IsWhole) (arg8 : Memref sig .tc .vmem S2x1 .f32) (harg8 : arg8.IsWhole)
  (arg9 : Memref sig .tc .vmem S1x1 .f32) (harg9 : arg9.IsWhole) (arg10 : Memref sig .tc .vmem S16x1 .f32) (harg10 : arg10.IsWhole)
  (x1 : Vec F S1x1x2048 .i32) (x2 x3 : Vec F S2048x512 .f32) (x4 : Vec F S1x1024 .bf16) (x5 : Vec F S16x1024 .f32)
  (x6 : Vec F S2x2048x1024 .bf16) (x7 : Vec F S2x16x2048 .bf16) (x8 : Vec F S2x1 .f32) (x9 : Vec F S1x1 .f32) (x10 : Vec F S16x1 .f32)

set_option maxHeartbeats 1000000 in
/-- The last point: the body adds the block staged in the other slot to the running sums and divides. -/
theorem run_last (h1 : ¬ k0_cond1 i = 1#1) (h2 : ¬ k0_cond2 i = 1#1) (h3 : k0_cond3 i = 1#1) (h4 : k0_cond4 i = 1#1)
    (E : Set ℕ) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (k0_pay5 (k0_pay21 (slotE x7 (oth i)) (slotB x8 (oth i)) x9 x10) (k0_pay22 (slotE x7 (oth i)) (slotX x6 (oth i)) (slotB x8 (oth i)) x9 x5))
    ∗ owns (c : Thread nD τ) arg6 fullShare x6 ∗ owns (c : Thread nD τ) arg7 fullShare x7 ∗ owns (c : Thread nD τ) arg8 fullShare x8 ∗ owns (c : Thread nD τ) arg9 fullShare (k0_pay20 (slotB x8 (oth i)) x9) ∗ owns (c : Thread nD τ) arg10 fullShare (k0_pay21 (slotE x7 (oth i)) (slotB x8 (oth i)) x9 x10)) -∗ K ⟨⟩))
      ⊢ wp frame (wpE (defs₀ (F := F)) Variants.none c none) E (cc0__pool_kernel i arg1 harg1 arg2 harg2 arg3 harg3 arg4 harg4 arg5 harg5 arg6 harg6 arg7 harg7 arg8 harg8 arg9 harg9 arg10 harg10) K := by
  simp only [cc0__pool_kernel_eq_skeleton]; unfold cc0__pool_kernel_skel
  simp only [k0_part1_eq_skeleton, k0_part2_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg1.eq_unread hf1; obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9; obtain rfl := harg10.eq_unread hf10
  sl_exec (disch := first | sl_exact h1 | sl_exact h2 | sl_exact h3 | sl_exact h4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    sl_unfold_run_names
    rw [View.read_writes_full]
    rw [View.readCov_full arg10.view, View.readCov_full arg5.view, View.readAt_full arg5.view, harg5.read_unread, View.readAt_full arg9.view, harg9.read_unread, View.readAt_full arg10.view, harg10.read_unread]
    rw [loadE _ _ (oth i) (off5_eq i), harg7.read_unread, loadX _ _ (oth i) (off6_eq i), harg6.read_unread, loadB _ _ (oth i) (off7_eq i), harg8.read_unread]
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro
    sl_unfold_run_names
    rw [View.read_writes_full, loadB _ _ (oth i) (off7_eq i), harg8.read_unread]
    rw [View.readAt_full arg9.view, harg9.read_unread]
  iexists _; isplitr
  swap; · iexact H10
  ipureintro
  sl_unfold_run_names
  rw [View.read_writes_full, loadE _ _ (oth i) (off5_eq i), harg7.read_unread, loadB _ _ (oth i) (off7_eq i), harg8.read_unread]
  rw [View.readAt_full arg9.view, harg9.read_unread, View.readAt_full arg10.view, harg10.read_unread]

end Cert.KernelIdeal.Run

end
-- ==== Proof.KernelIdeal.State.lean ====
/- What the kernel carries from one grid point to the next, and the proof data of its pipeline. -/
module

public import proofs.«01_k».proof.Proof.KernelIdeal.RunFirst
public import proofs.«01_k».proof.Proof.KernelIdeal.RunMid
public import proofs.«01_k».proof.Proof.KernelIdeal.RunLast

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditions, point by point -/

/-- The grid has nine points. -/
theorem points (t : Fin cfg0.N) : t.val < 9 := lt_of_lt_of_eq t.isLt (show cfg0.N = 9 from N_0)

/-- The one grid coordinate of a point is its number. -/
theorem coord_eq (t : Fin cfg0.N) : (grid0.coords t 0).val = t.val := by
  have e : (grid0.coords t 0).val = t.val / 1 % 9 := Pipeline.Grid.coords_val t 0 (by decide) rfl
  have := points t
  omega

/-- The sums are reset at the first point only. -/
theorem cond1_iff (t : Fin cfg0.N) : k0_cond1 (grid0.coords t) = 1#1 ↔ t.val = 0 :=
  ((by decide +kernel : ∀ i : grid0.Coords, k0_cond1 i = 1#1 ↔ (i 0).val = 0) _).trans (by rw [coord_eq])
/-- A block is staged at every point but the last. -/
theorem cond2_iff (t : Fin cfg0.N) : k0_cond2 (grid0.coords t) = 1#1 ↔ t.val < 8 :=
  ((by decide +kernel : ∀ i : grid0.Coords, k0_cond2 i = 1#1 ↔ (i 0).val < 8) _).trans (by rw [coord_eq])
/-- A staged block is added at every point but the first. -/
theorem cond3_iff (t : Fin cfg0.N) : k0_cond3 (grid0.coords t) = 1#1 ↔ 0 < t.val :=
  ((by decide +kernel : ∀ i : grid0.Coords, k0_cond3 i = 1#1 ↔ 0 < (i 0).val) _).trans (by rw [coord_eq])
/-- The sums are divided at the last point only. -/
theorem cond4_iff (t : Fin cfg0.N) : k0_cond4 (grid0.coords t) = 1#1 ↔ t.val = 8 :=
  ((by decide +kernel : ∀ i : grid0.Coords, k0_cond4 i = 1#1 ↔ (i 0).val = 8) _).trans (by rw [coord_eq])

/-- The output's buffer is stored at every point. -/
theorem idle4 (i : grid0.Coords) : cfg0.idle 4 i = false :=
  (by decide +kernel : ∀ i : grid0.Coords, idle0 4 i = false) i

/-- The slot a point adds is the one the point before filled. -/
theorem oth_eq (n : ℕ) (h : n + 1 < cfg0.N) :
    oth (grid0.coords ⟨n + 1, h⟩) = cur (grid0.coords ⟨n, Nat.lt_of_succ_lt h⟩) := by
  apply Fin.ext
  show 1 - (grid0.coords ⟨n + 1, h⟩ 0).val % 2 = (grid0.coords ⟨n, Nat.lt_of_succ_lt h⟩ 0).val % 2
  rw [coord_eq, coord_eq]
  show 1 - (n + 1) % 2 = n % 2
  omega

/-! ## The carried state -/

/-- The rows point `t` stages. -/
def stX (c : Dev nD) (t : Fin cfg0.N) : Vec F S1x2048x1024 .bf16 := rowsOf (iblk m c 1 t) (iblk m c 2 t)
/-- The weights point `t` stages. -/
def stE (c : Dev nD) (t : Fin cfg0.N) : Vec F S1x16x2048 .bf16 := weightsOf (iblk m c 0 t) (iblk m c 3 t) (iblk m c 1 t) (iblk m c 2 t)
/-- The block maximum point `t` stages. -/
def stB (c : Dev nD) (t : Fin cfg0.N) : Vec F S1x1 .f32 := blockMax (iblk m c 3 t) (iblk m c 1 t) (iblk m c 2 t)

/-- The running maximum, the running sums of weights and the running weighted sums of rows after point `n`: reset at
    the first point; then the block staged at the point before is added. -/
def acc (c : Dev nD) : (n : ℕ) → n < cfg0.N → Vec F S1x1 .f32 × Vec F S16x1 .f32 × Vec F S16x1024 .f32
  | 0, _ => (k0_pay1, k0_pay2, k0_pay3)
  | n + 1, h =>
    let p := acc c n (Nat.lt_of_succ_lt h)
    let t : Fin cfg0.N := ⟨n, Nat.lt_of_succ_lt h⟩
    (k0_pay20 (stB m c t) p.1, k0_pay21 (stE m c t) (stB m c t) p.1 p.2.1, k0_pay22 (stE m c t) (stX m c t) (stB m c t) p.1 p.2.2)

/-- A point after the first adds the block the point before staged. -/
theorem acc_succ (c : Dev nD) (n : ℕ) (h : n + 1 < cfg0.N) :
    acc m c (n + 1) h = (k0_pay20 (stB m c ⟨n, Nat.lt_of_succ_lt h⟩) (acc m c n (Nat.lt_of_succ_lt h)).1,
      k0_pay21 (stE m c ⟨n, Nat.lt_of_succ_lt h⟩) (stB m c ⟨n, Nat.lt_of_succ_lt h⟩) (acc m c n (Nat.lt_of_succ_lt h)).1 (acc m c n (Nat.lt_of_succ_lt h)).2.1,
      k0_pay22 (stE m c ⟨n, Nat.lt_of_succ_lt h⟩) (stX m c ⟨n, Nat.lt_of_succ_lt h⟩) (stB m c ⟨n, Nat.lt_of_succ_lt h⟩) (acc m c n (Nat.lt_of_succ_lt h)).1 (acc m c n (Nat.lt_of_succ_lt h)).2.2) := rfl

/-- What the output's buffer holds after point `n`: the weighted sums, divided by the sums of weights at the last point. -/
def outAt (c : Dev nD) (n : ℕ) (h : n < cfg0.N) : Vec F S16x1024 .f32 :=
  if n = 8 then k0_pay5 (acc m c n h).2.1 (acc m c n h).2.2 else (acc m c n h).2.2

/-- Before the last point the output's buffer holds the running weighted sums. -/
theorem outAt_ne (c : Dev nD) (n : ℕ) (h : n < cfg0.N) (hn : n ≠ 8) : outAt m c n h = (acc m c n h).2.2 := by
  unfold outAt; exact if_neg hn
/-- At the last point it holds them divided by the sums of weights. -/
theorem outAt_last (c : Dev nD) (n : ℕ) (h : n < cfg0.N) (hn : n = 8) :
    outAt m c n h = k0_pay5 (acc m c n h).2.1 (acc m c n h).2.2 := by
  unfold outAt; exact if_pos hn

/-- The five scratch buffers whole. -/
abbrev scM0_0 := Memref.whole cc0_scratch0
abbrev scM0_1 := Memref.whole cc0_scratch1
abbrev scM0_2 := Memref.whole cc0_scratch2
abbrev scM0_3 := Memref.whole cc0_scratch3
abbrev scM0_4 := Memref.whole cc0_scratch4

/-- The three staging buffers after point `n`: the point's slot holds what it staged (the last point stages nothing). -/
def staged (c : Dev nD) (n : ℕ) (h : n < cfg0.N) : sProp 𝕄 :=
  iprop((∃ z, ⌜n < 8 → slotX z (cur (grid0.coords ⟨n, h⟩)) = stX m c ⟨n, h⟩⌝ ∗ owns (c : Thread nD τ) scM0_0 fullShare z)
    ∗ (∃ z, ⌜n < 8 → slotE z (cur (grid0.coords ⟨n, h⟩)) = stE m c ⟨n, h⟩⌝ ∗ owns (c : Thread nD τ) scM0_1 fullShare z)
    ∗ (∃ z, ⌜n < 8 → slotB z (cur (grid0.coords ⟨n, h⟩)) = stB m c ⟨n, h⟩⌝ ∗ owns (c : Thread nD τ) scM0_2 fullShare z))

/-- The invariant before position `n`: before the first point every scratch buffer at anything; afterwards the staging
    buffers as the point before left them (`staged`) and the running maximum and sums of weights at `acc`. -/
def PhiS (c : Dev nD) : (n : ℕ) → n ≤ cfg0.N → sProp 𝕄
  | 0, _ => Pipeline.ΦA spec0 c
  | n + 1, hn => iprop((staged m c n hn ∗ owns (c : Thread nD τ) scM0_3 fullShare (acc m c n hn).1
      ∗ owns (c : Thread nD τ) scM0_4 fullShare (acc m c n hn).2.1) ∗ (∃ r, prngReg c r))

/-- After point `n` the invariant names what it left. -/
theorem PhiS_succ (c : Dev nD) (n : ℕ) (hn : n < cfg0.N) :
    PhiS m c (n + 1) hn = iprop((staged m c n hn ∗ owns (c : Thread nD τ) scM0_3 fullShare (acc m c n hn).1
      ∗ owns (c : Thread nD τ) scM0_4 fullShare (acc m c n hn).2.1) ∗ (∃ r, prngReg c r)) := rfl

/-- What the launch hands over: the five scratch buffers at anything and the generator register at some state. -/
theorem PhiA0_eq (c : Dev nD) : (Pipeline.ΦA spec0 c : sProp 𝕄) = iprop(iprop((∃ d, owns (c : Thread nD τ) scM0_0 fullShare d)
    ∗ (∃ d, owns (c : Thread nD τ) scM0_1 fullShare d) ∗ (∃ d, owns (c : Thread nD τ) scM0_2 fullShare d)
    ∗ (∃ d, owns (c : Thread nD τ) scM0_3 fullShare d) ∗ (∃ d, owns (c : Thread nD τ) scM0_4 fullShare d)) ∗ (∃ r, prngReg c r)) := by
  unfold Pipeline.ΦA
  rw [scopedRest0_eq]
  simp only [scM0_0, scM0_1, scM0_2, scM0_3, scM0_4, owns_whole]
  try rfl

/-! ## The pipeline's proof data -/

/-- The arrays as the region finds them; after the body each input's buffer at its block and the output's at `outAt`;
    the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t.val t.isLt
  Φ t := PhiS m c t.val (Nat.le_of_lt_succ t.isLt)
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- The invariant at a point's start, at the point's number. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outAt m c t.val t.isLt := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- After the first point the output's buffer holds what the point before left: the running weighted sums. -/
theorem before0_4 (c : Dev nD) (n : ℕ) (h : n + 1 < cfg0.N) (d) :
    (dats m 0 c).before 4 ⟨n + 1, h⟩ d = (acc m c n (Nat.lt_of_succ_lt h)).2.2 := by
  have hN : n + 1 < 9 := lt_of_lt_of_eq h (show cfg0.N = 9 from N_0)
  rw [Dat.before_out_kept _ 4 rfl ⟨n + 1, h⟩ (Nat.succ_ne_zero n) (Bool.eq_false_iff.mpr fun h' => by
      have := (flush0_4 _).mp h'; dsimp only at this; omega) idle4 (fun _ _ => rfl)]
  dsimp only [dats]
  unfold outAt
  exact if_neg (show ¬ (n + 1 - 1 = 8) by omega)

end Cert.KernelIdeal.Run

end
-- ==== Proof.KernelIdeal.Frame.lean ====
/- The kernel body at every grid point, and the run of the whole program. -/
module

public import proofs.«01_k».proof.Proof.KernelIdeal.State
public import Idealize.ShloMosaic.Lib.Claim

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging buffer of each window at a point. -/
abbrev ms0_0 (t : Fin cfg0.N) : Memref sig .tc .vmem S1x1x2048 .i32 := win0_0.stage (cfg0.slots t 0)
abbrev ms0_1 (t : Fin cfg0.N) : Memref sig .tc .vmem S2048x512 .f32 := win0_1.stage (cfg0.slots t 1)
abbrev ms0_2 (t : Fin cfg0.N) : Memref sig .tc .vmem S2048x512 .f32 := win0_2.stage (cfg0.slots t 2)
abbrev ms0_3 (t : Fin cfg0.N) : Memref sig .tc .vmem S1x1024 .bf16 := win0_3.stage (cfg0.slots t 3)
abbrev ms0_4 (t : Fin cfg0.N) : Memref sig .tc .vmem S16x1024 .f32 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

/-- A staging buffer known at a slot is known there at a point where the block is staged. -/
theorem staged_of {c : Dev nD} {S : Shape} {e : EltTy} (M : Memref sig .tc .vmem S e) {n : ℕ} (P : Vec F S e → Prop) :
    (iprop(∃ z, ⌜P z⌝ ∗ owns (c : Thread nD τ) M fullShare z) : sProp 𝕄) ⊢ iprop(∃ z, ⌜n < 8 → P z⌝ ∗ owns (c : Thread nD τ) M fullShare z) := by
  iintro ⟨%z, %hz, H⟩
  iexists z
  isplitr
  · ipureintro; exact fun _ => hz
  iexact H

set_option maxHeartbeats 1000000 in
/-- The body at the first point. -/
theorem sound_first (c : Dev nD) (h : 0 < cfg0.N) :
    bodyPre m c ⟨0, h⟩ ⊢ wp frame (wpE (defs₀ (F := F)) Variants.none c none) Set.univ (bodyAt0 ⟨0, h⟩) (fun _ => bodyPost m c ⟨0, h⟩) := by
  unfold bodyPre bodyPost bodyAt0
  simp only [before0_0, before0_1, before0_2, before0_3]
  rw [show (dats m 0 c).owesAt () (Fin.succ ⟨0, h⟩) = (dats m 0 c).owesAt () (Fin.castSucc ⟨0, h⟩) from rfl,
    after0_0, after0_1, after0_2, after0_3, after0_4]
  rw [show (dats m 0 c).Φ (Fin.succ ⟨0, h⟩) = PhiS m c (0 + 1) h from rfl, PhiS_succ, PhiS_castSucc,
    show PhiS m c 0 (Nat.le_of_lt h) = Pipeline.ΦA spec0 c from rfl, PhiA0_eq]
  unfold staged
  iintro ⟨⟨⟨⟨%s0, HS0⟩, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩⟩
  iapply (run_first c (grid0.coords ⟨0, h⟩) _ _ _ _ _ _ _ _ _ _ _ _ _ _ _ _ _ _ _ _ (iblk m c 0 ⟨0, h⟩) (iblk m c 1 ⟨0, h⟩) (iblk m c 2 ⟨0, h⟩) (iblk m c 3 ⟨0, h⟩) _ s0 s1 s2 s3 s4
    ((cond1_iff ⟨0, h⟩).mpr rfl) ((cond2_iff ⟨0, h⟩).mpr (show 0 < 8 by omega)) (fun h' => absurd ((cond3_iff ⟨0, h⟩).mp h') (show ¬ (0 < 0) by omega)) (fun h' => absurd ((cond4_iff ⟨0, h⟩).mp h') (show ¬ (0 = 8) by omega)) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  iintro ⟨H0, H1, H2, H3, H4, HS0, HS1, HS2, HS3, HS4⟩
  isplitl [HS0 HS1 HS2 HS3 HS4 Hg]
  · isplitl [HS0 HS1 HS2 HS3 HS4]
    · isplitl [HS0 HS1 HS2]
      · isplitl [HS0]; · iapply (staged_of _ _); iexact HS0
        isplitl [HS1]; · iapply (staged_of _ _); iexact HS1
        iapply (staged_of _ _); iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  iexact H4

set_option maxHeartbeats 1000000 in
/-- The body at a point between the first and the last. -/
theorem sound_mid (c : Dev nD) (n : ℕ) (h : n + 1 < cfg0.N) (hn : n + 1 < 8) :
    bodyPre m c ⟨n + 1, h⟩ ⊢ wp frame (wpE (defs₀ (F := F)) Variants.none c none) Set.univ (bodyAt0 ⟨n + 1, h⟩) (fun _ => bodyPost m c ⟨n + 1, h⟩) := by
  unfold bodyPre bodyPost bodyAt0
  simp only [before0_0, before0_1, before0_2, before0_3, before0_4]
  rw [show (dats m 0 c).owesAt () (Fin.succ ⟨n + 1, h⟩) = (dats m 0 c).owesAt () (Fin.castSucc ⟨n + 1, h⟩) from rfl,
    after0_0, after0_1, after0_2, after0_3, after0_4]
  rw [show (dats m 0 c).Φ (Fin.succ ⟨n + 1, h⟩) = PhiS m c (n + 1 + 1) h from rfl, PhiS_succ, PhiS_castSucc,
    show PhiS m c (n + 1) (Nat.le_of_lt h) = PhiS m c (n + 1) (Nat.lt_of_succ_lt h) from rfl, PhiS_succ]
  unfold staged
  rw [outAt_ne m c (n + 1) h (by omega), acc_succ]
  iintro ⟨⟨⟨⟨⟨%s0, %e0, HS0⟩, ⟨%s1, %e1, HS1⟩, ⟨%s2, %e2, HS2⟩⟩, HS3, HS4⟩, Hg⟩, Ho, ⟨%d0, H0⟩, ⟨%d1, H1⟩, ⟨%d2, H2⟩, ⟨%d3, H3⟩, ⟨%d4, H4⟩⟩
  replace e0 := e0 (by omega); replace e1 := e1 (by omega); replace e2 := e2 (by omega)
  rw [← oth_eq n h] at e0 e1 e2
  dsimp only
  rw [← e0, ← e1, ← e2]
  iapply (run_mid c (grid0.coords ⟨n + 1, h⟩) _ _ _ _ _ _ _ _ _ _ _ _ _ _ _ _ _ _ _ _ (iblk m c 0 ⟨n + 1, h⟩) (iblk m c 1 ⟨n + 1, h⟩) (iblk m c 2 ⟨n + 1, h⟩) (iblk m c 3 ⟨n + 1, h⟩) _ s0 s1 s2 _ _
    (fun h' => absurd ((cond1_iff ⟨n + 1, h⟩).mp h') (Nat.succ_ne_zero n)) ((cond2_iff ⟨n + 1, h⟩).mpr hn) ((cond3_iff ⟨n + 1, h⟩).mpr (Nat.succ_pos n)) (fun h' => absurd ((cond4_iff ⟨n + 1, h⟩).mp h') (by show ¬ (n + 1 = 8); omega)) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  iintro ⟨H0, H1, H2, H3, H4, HS0, HS1, HS2, HS3, HS4⟩
  isplitl [HS0 HS1 HS2 HS3 HS4 Hg]
  · isplitl [HS0 HS1 HS2 HS3 HS4]
    · isplitl [HS0 HS1 HS2]
      · isplitl [HS0]; · iapply (staged_of _ _); iexact HS0
        isplitl [HS1]; · iapply (staged_of _ _); iexact HS1
        iapply (staged_of _ _); iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  iexact H4

set_option maxHeartbeats 1000000 in
/-- The body at the last point. -/
theorem sound_last (c : Dev nD) (n : ℕ) (h : n + 1 < cfg0.N) (hn : n + 1 = 8) :
    bodyPre m c ⟨n + 1, h⟩ ⊢ wp frame (wpE (defs₀ (F := F)) Variants.none c none) Set.univ (bodyAt0 ⟨n + 1, h⟩) (fun _ => bodyPost m c ⟨n + 1, h⟩) := by
  unfold bodyPre bodyPost bodyAt0
  simp only [before0_0, before0_1, before0_2, before0_3, before0_4]
  rw [show (dats m 0 c).owesAt () (Fin.succ ⟨n + 1, h⟩) = (dats m 0 c).owesAt () (Fin.castSucc ⟨n + 1, h⟩) from rfl,
    after0_0, after0_1, after0_2, after0_3, after0_4]
  rw [show (dats m 0 c).Φ (Fin.succ ⟨n + 1, h⟩) = PhiS m c (n + 1 + 1) h from rfl, PhiS_succ, PhiS_castSucc,
    show PhiS m c (n + 1) (Nat.le_of_lt h) = PhiS m c (n + 1) (Nat.lt_of_succ_lt h) from rfl, PhiS_succ]
  unfold staged
  rw [outAt_last m c (n + 1) h hn, acc_succ]
  iintro ⟨⟨⟨⟨⟨%s0, %e0, HS0⟩, ⟨%s1, %e1, HS1⟩, ⟨%s2, %e2, HS2⟩⟩, HS3, HS4⟩, Hg⟩, Ho, ⟨%d0, H0⟩, ⟨%d1, H1⟩, ⟨%d2, H2⟩, ⟨%d3, H3⟩, ⟨%d4, H4⟩⟩
  replace e0 := e0 (by omega); replace e1 := e1 (by omega); replace e2 := e2 (by omega)
  rw [← oth_eq n h] at e0 e1 e2
  dsimp only
  rw [← e0, ← e1, ← e2]
  iapply (run_last c (grid0.coords ⟨n + 1, h⟩) _ _ _ _ _ _ _ _ _ _ _ _ _ _ _ _ _ _ _ _ (iblk m c 0 ⟨n + 1, h⟩) (iblk m c 1 ⟨n + 1, h⟩) (iblk m c 2 ⟨n + 1, h⟩) (iblk m c 3 ⟨n + 1, h⟩) _ s0 s1 s2 _ _
    (fun h' => absurd ((cond1_iff ⟨n + 1, h⟩).mp h') (Nat.succ_ne_zero n)) (fun h' => absurd ((cond2_iff ⟨n + 1, h⟩).mp h') (show ¬ (n + 1 < 8) by omega)) ((cond3_iff ⟨n + 1, h⟩).mpr (Nat.succ_pos n)) ((cond4_iff ⟨n + 1, h⟩).mpr hn) Set.univ _)
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  isplitl [HS3]; · iexact HS3
  isplitl [HS4]; · iexact HS4
  iintro ⟨H0, H1, H2, H3, H4, HS0, HS1, HS2, HS3, HS4⟩
  isplitl [HS0 HS1 HS2 HS3 HS4 Hg]
  · isplitl [HS0 HS1 HS2 HS3 HS4]
    · isplitl [HS0 HS1 HS2]
      · isplitl [HS0]
        · iexists s0; isplitr
          · ipureintro; exact fun h' => absurd h' (by omega)
          iexact HS0
        isplitl [HS1]
        · iexists s1; isplitr
          · ipureintro; exact fun h' => absurd h' (by omega)
          iexact HS1
        iexists s2; isplitr
        · ipureintro; exact fun h' => absurd h' (by omega)
        iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  iexact H4

/-- The body at any point. -/
theorem sound_body (c : Dev nD) (t : Fin cfg0.N) :
    bodyPre m c t ⊢ wp frame (wpE (defs₀ (F := F)) Variants.none c none) Set.univ (bodyAt0 t) (fun _ => bodyPost m c t) := by
  have hN := points t
  obtain ⟨n, hn⟩ := t
  rcases n with _ | n
  · exact sound_first m c hn
  · by_cases h : n + 1 < 8
    · exact sound_mid m c n hn h
    · exact sound_last m c n hn (by dsimp only at hN; omega)

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body's triple in the form the pipeline's run asks for. -/
theorem body_obligation (c : Dev nD) : BodyObligation (dats (F := F) m 0 c) (defs₀ (F := F)) Variants.none () Set.univ := fun t => by
  rw [bigSep_W0, bigSep_W0, defs₀_row]
  rw [idle4 (cfg0.grid.coords t)]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- After the last point the invariant gives it back, its contents forgotten. -/
theorem hout (c : Dev nD) : (dats m 0 c).Φ (Fin.last cfg0.N) ⊢ Pipeline.ΦA spec0 c := by
  have e : (dats m 0 c).Φ (Fin.last cfg0.N) = PhiS m c cfg0.N (Nat.le_refl _) := rfl
  have hN : cfg0.N = 8 + 1 := N_0
  have e' : ∀ n (h : n ≤ cfg0.N) (hn : n = 8 + 1), PhiS m c n h = PhiS m c (8 + 1) (by omega) := by
    intro n h hn; subst hn; rfl
  rw [e, e' _ _ hN, PhiS_succ, PhiA0_eq]
  unfold staged
  iintro ⟨⟨⟨⟨%s0, %e0, HS0⟩, ⟨%s1, %e1, HS1⟩, ⟨%s2, %e2, HS2⟩⟩, HS3, HS4⟩, Hg⟩
  isplitl [HS0 HS1 HS2 HS3 HS4]
  · isplitl [HS0]; · iexists _; iexact HS0
    isplitl [HS1]; · iexists _; iexact HS1
    isplitl [HS2]; · iexists _; iexact HS2
    isplitl [HS3]; · iexists _; iexact HS3
    iexists _; iexact HS4
  iexact Hg

/-! ## The run and the frame -/

-- the implicit arguments are found by unifying the conclusion with this one, which takes unfolding plain definitions in
-- a metavariable's type
set_option backward.isDefEq.respectTransparency.types false in
/-- The launch: the run ends with the arrays at what the proof data says and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run ends with the arrays at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: the run ends, the argument arrays unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Run

end
-- ==== Proof.KernelIdeal.Final.lean ====
/- What the kernel's output array holds after the run: the division the last grid point stores. -/
module

public import proofs.«01_k».proof.Proof.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI Idealize.SL.Sem
open Idealize.ShloMosaic.Pipeline (Dat Cfg Window)
open Cert.KernelIdeal Cert.KernelIdeal.Gen

variable {F : FTy → Type} [FloatOps F]

variable (m : (ℓ : Loc nD τ sig) → Buf (Elt F) ℓ) (ρ : Dev nD → PrngReg)

/-- The last point's number is a point. -/
theorem eight_lt : 8 < cfg0.N := lt_of_lt_of_eq (by decide) N_0.symm

/-- What the output array ends holding: the weighted sums of rows divided by the sums of weights. -/
def result (c : Dev nD) : Vec F S16x1024 .f32 := k0_pay5 (acc m c 8 eight_lt).2.1 (acc m c 8 eight_lt).2.2

/-- The output's one block is its whole array, at every point. -/
theorem idx4 : ∀ t : Fin cfg0.N, win0_4.index t (0 : Fin 2) = 0 ∧ win0_4.index t (1 : Fin 2) = 0 :=
  (by decide +kernel : ∀ t : Fin grid0.N, _)

/-- The last point writes the output back. -/
theorem flush_last : (cfg0.win 4).flush (⟨8, eight_lt⟩ : Fin cfg0.N) = true := (flush0_4 _).mpr rfl

/-- What a point writes back to the output array is the result's block. -/
theorem flushed4_eq (c : Dev nD) (t : Fin cfg0.N) (hf : (cfg0.win 4).flush t = true) :
    (dats m 0 c).flushed 4 t = ((cfg0.win 4).blk t).view.read (Elt F) (result m c) := by
  show (cfg0.win 4).cut (grid0.coords t) ((dats m 0 c).after 4 t) = _
  have h8 : t.val = 8 := by have := (flush0_4 t).mp hf; have := points t; omega
  obtain ⟨n, hn⟩ := t
  dsimp only at h8
  subst h8
  rw [after0_4, outAt_last m c 8 hn rfl]
  obtain ⟨e0, e1⟩ := idx4 ⟨8, hn⟩
  funext y
  have hb0 : (((cfg0.win 4).blk ⟨8, hn⟩).view.emb y 0).val = win0_4.index ⟨8, hn⟩ (0 : Fin 2) * 16 + 1 * (y 0).val := rfl
  have hb1 : (((cfg0.win 4).blk ⟨8, hn⟩).view.emb y 1).val = win0_4.index ⟨8, hn⟩ (1 : Fin 2) * 1024 + 1 * (y 1).val := rfl
  have hl : ((cfg0.win 4).blk ⟨8, hn⟩).view.emb y = (cfg0.win 4).xinj (grid0.coords ⟨8, hn⟩) y := by
    funext a; apply Fin.ext
    match a with
    | ⟨0, _⟩ => show (((cfg0.win 4).blk ⟨8, hn⟩).view.emb y 0).val = (y 0).val; rw [hb0]; omega
    | ⟨1, _⟩ => show (((cfg0.win 4).blk ⟨8, hn⟩).view.emb y 1).val = (y 1).val; rw [hb1]; omega
  show result m c ((cfg0.win 4).xinj (grid0.coords ⟨8, hn⟩) y) = result m c (((cfg0.win 4).blk ⟨8, hn⟩).view.emb y)
  rw [hl]

/-- Every index of the output array is in the last point's block. -/
theorem mem_blk4 (t : Fin cfg0.N) (i : S16x1024.Idx) : i ∈ ((cfg0.win 4).blk t).view.set := by
  show i ∈ ((View.whole main_v0).slice (win0_4.rect t)).set
  rw [View.set_slice_whole, Rect.mem_set_unit]
  obtain ⟨e0, e1⟩ := idx4 t
  have h0 : (i 0).val < 16 := (i 0).isLt
  have h1 : (i 1).val < 1024 := (i 1).isLt
  intro a
  match a with
  | ⟨0, _⟩ => show win0_4.index t (0 : Fin 2) * 16 ≤ (i 0).val ∧ (i 0).val < win0_4.index t (0 : Fin 2) * 16 + 16; omega
  | ⟨1, _⟩ => show win0_4.index t (1 : Fin 2) * 1024 ≤ (i 1).val ∧ (i 1).val < win0_4.index t (1 : Fin 2) * 1024 + 1024; omega

/-- The output array after the run. -/
theorem final4 (c : Dev nD) : (dats m 0 c).arrAt 4 cfg0.N = result m c :=
  (dats m 0 c).arrAt_eq_of_cover 4 _ (fun t hf => flushed4_eq m c t hf) (fun i => ⟨⟨8, eight_lt⟩, flush_last, mem_blk4 _ i⟩)

/-- The run, read: the output array ends at the result. -/
theorem run_result : θ_run defs (onTc (τ := τ) (main (F := F))) ⟨m, fun _ => 0, ρ⟩ fun r => ∀ c : Dev nD,
      r.2.mem ((c.tc : Thread nD τ).loc main_v0) = result m c :=
  (θ_run defs _ _).mono (fun r h c => ((h c).1 4).trans (final4 m c)) (run_main m ρ)

/-- The run, read: the output array ends at the result and the argument arrays unchanged. -/
theorem run : θ_run defs (onTc (τ := τ) (main (F := F))) ⟨m, fun _ => 0, ρ⟩ (fun r => ∀ c : Dev nD,
      r.2.mem ((c.tc : Thread nD τ).loc main_v0) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨h.1 c, h.2 c⟩) (θ_run_and (run_result m ρ) (unchanged m ρ))

end Cert.KernelIdeal.Run

end
-- ==== Proof.Pool.lean ====
/- Softmax pooling over groups as plain real arithmetic: sums of `exp (score - shift) * value` over the members of a group,
   built up block by block under a moving shift, and the ratio of two such sums, which no shift changes. -/
module

public import Idealize.ShloMosaic.Lib.IdealHost
public import Mathlib.Algebra.BigOperators.Fin
public import Mathlib.Data.EReal.Basic

@[expose] public section

noncomputable section

namespace Cert.Pool

open Finset

/-- Row `r` of block `b`: the array's 16384 rows come in 8 blocks of 2048. -/
def rowOf (b : ℕ) (r : Fin 2048) : Fin 16384 := ⟨(2048 * b + r.val) % 16384, Nat.mod_lt _ (by decide)⟩

/-- A row's score: its product with the weights. -/
def score (x : Fin 16384 → Fin 1024 → ℝ) (w : Fin 1024 → ℝ) (n : Fin 16384) : ℝ := ∑ k, w k * x n k

variable (s v : Fin 16384 → ℝ) (id : Fin 16384 → ℕ) (g : ℕ)

/-- Block `b`'s sum of `exp (s - M) * v` over the members of group `g`. -/
def blockSum (b : ℕ) (M : ℝ) : ℝ :=
  ∑ r : Fin 2048, (if id (rowOf b r) = g then Real.exp (s (rowOf b r) - M) else 0) * v (rowOf b r)

/-- The same sum over the first `n` blocks. -/
def part (n : ℕ) (M : ℝ) : ℝ := ∑ b ∈ range n, blockSum s v id g b M

/-- The same sum over all rows. -/
def total (M : ℝ) : ℝ := ∑ i : Fin 16384, (if id i = g then Real.exp (s i - M) else 0) * v i

/-- Changing the shift of a block's sum multiplies it by the exponential of the difference. -/
theorem blockSum_shift (b : ℕ) (M M' : ℝ) : Real.exp (M - M') * blockSum s v id g b M = blockSum s v id g b M' := by
  unfold blockSum
  rw [mul_sum]
  refine sum_congr rfl fun r _ => ?_
  split
  · rw [← mul_assoc, ← Real.exp_add]; congr 2; ring
  · ring

/-- Changing the shift of the first blocks' sum. -/
theorem part_shift (n : ℕ) (M M' : ℝ) : Real.exp (M - M') * part s v id g n M = part s v id g n M' := by
  unfold part
  rw [mul_sum]
  exact sum_congr rfl fun b _ => blockSum_shift s v id g b M M'

/-- One step of the running sum: both the sum so far and the new block's sum are brought to the new shift. -/
theorem part_step (n : ℕ) (M B M' : ℝ) :
    Real.exp (M - M') * part s v id g n M + Real.exp (B - M') * blockSum s v id g n B = part s v id g (n + 1) M' := by
  rw [part_shift, blockSum_shift]
  unfold part
  rw [sum_range_succ]

/-- The first zero blocks sum to zero. -/
theorem part_zero (M : ℝ) : part s v id g 0 M = 0 := by unfold part; exact sum_range_zero _

/-- The eight blocks are all the rows. -/
theorem sum_rowOf (f : Fin 16384 → ℝ) : ∑ b ∈ range 8, ∑ r : Fin 2048, f (rowOf b r) = ∑ i, f i := by
  rw [sum_range (fun b => ∑ r : Fin 2048, f (rowOf b r)), ← Fintype.sum_prod_type']
  refine Fintype.sum_equiv (finProdFinEquiv (m := 8) (n := 2048)) _ _ fun p => congrArg f (Fin.ext ?_)
  have h1 := p.1.isLt
  have h2 := p.2.isLt
  show (2048 * p.1.val + p.2.val) % 16384 = p.2.val + 2048 * p.1.val
  omega

/-- The sum over the eight blocks is the sum over all rows. -/
theorem part_all (M : ℝ) : part s v id g 8 M = total s v id g M :=
  sum_rowOf fun i => (if id i = g then Real.exp (s i - M) else 0) * v i

/-- Changing the shift of the whole sum. -/
theorem total_shift (M M' : ℝ) : Real.exp (M - M') * total s v id g M = total s v id g M' := by
  rw [← part_all, ← part_all, part_shift]

/-- The sum of weights of a group with a member is positive. -/
theorem total_pos (M : ℝ) (i : Fin 16384) (hi : id i = g) : 0 < total s (fun _ => 1) id g M := by
  unfold total
  refine sum_pos' (fun j _ => ?_) ⟨i, mem_univ _, ?_⟩
  · split
    · rw [mul_one]; exact (Real.exp_pos _).le
    · rw [zero_mul]
  · rw [if_pos hi, mul_one]; exact Real.exp_pos _

/-- A group without a member sums to zero. -/
theorem total_empty (M : ℝ) (h : ∀ i, id i ≠ g) : total s v id g M = 0 := by
  unfold total
  exact sum_eq_zero fun i _ => by rw [if_neg (h i), zero_mul]

/-- The pooled value does not depend on the shift: the quotient of the two sums at one shift is the sum of the values
    weighted by the quotients at another. -/
theorem pooled_eq (M c : ℝ) :
    total s v id g M * (1 / if 0 < total s (fun _ => 1) id g M then total s (fun _ => 1) id g M else 1)
      = ∑ i ∈ univ.filter (fun i => id i = g), v i * (Real.exp (s i - c) * (1 / total s (fun _ => 1) id g c)) := by
  by_cases h : ∃ i, id i = g
  · obtain ⟨i, hi⟩ := h
    have hM := total_pos s id g M i hi
    have hc := total_pos s id g c i hi
    rw [if_pos hM, ← total_shift s v id g c M, ← total_shift s (fun _ => 1) id g c M]
    have he := (Real.exp_pos (c - M)).ne'
    have e : Real.exp (c - M) * total s v id g c * (1 / (Real.exp (c - M) * total s (fun _ => 1) id g c))
        = total s v id g c * (1 / total s (fun _ => 1) id g c) := by
      field_simp
    rw [e]
    unfold total
    rw [sum_mul, sum_filter]
    refine sum_congr rfl fun j _ => ?_
    split <;> ring
  · have h' : ∀ i, id i ≠ g := fun i hi => h ⟨i, hi⟩
    rw [total_empty s v id g M h', zero_mul, filter_false_of_mem fun i _ => h' i, sum_empty]

/-- A finite sum of reals, read among the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [sum_insert ha, sum_insert ha, EReal.coe_add, ih]

/-- The maximum of a real and a real, read among the extended reals. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A maximum taken from `-∞` over finitely many values is `-∞` or one of them. -/
theorem fold_max_mem {ι : Type} (t : Finset ι) (f : ι → EReal) :
    t.fold max ⊥ f = ⊥ ∨ ∃ i ∈ t, t.fold max ⊥ f = f i := by
  classical
  induction t using Finset.induction_on with
  | empty => exact Or.inl rfl
  | insert a t ha ih =>
    rw [fold_insert ha]
    rcases max_choice (f a) (t.fold max ⊥ f) with h | h
    · exact Or.inr ⟨a, mem_insert_self _ _, h⟩
    · rw [h]
      rcases ih with h' | ⟨i, hi, h'⟩
      · exact Or.inl h'
      · exact Or.inr ⟨i, mem_insert_of_mem hi, h'⟩

/-- A maximum taken from `-∞` over a nonempty finite family of reals is a real. -/
theorem fold_max_real {ι : Type} (t : Finset ι) (f : ι → EReal) (i : ι) (hi : i ∈ t) (h : ∀ j, ∃ r : ℝ, f j = r) :
    ∃ r : ℝ, t.fold max ⊥ f = r := by
  rcases fold_max_mem t f with e | ⟨j, _, e⟩
  · obtain ⟨r, hr⟩ := h i
    have hle : f i ≤ t.fold max ⊥ f := (le_fold_max (f i)).mpr (Or.inr ⟨i, hi, le_refl _⟩)
    rw [e, hr] at hle
    exact absurd (le_bot_iff.mp hle) (EReal.coe_ne_bot r)
  · obtain ⟨r, hr⟩ := h j
    exact ⟨r, e.trans hr⟩

end Cert.Pool

end
-- ==== Proof.KernelIdeal.Blocks.lean ====
/- The blocks a grid point reads, element by element, as elements of the argument arrays. -/
module

public import proofs.«01_k».proof.Proof.KernelIdeal.State
public import proofs.«01_k».proof.Proof.Pool
public import Idealize.ShloMosaic.Lib.StableHlo.ReadAt

@[expose] public section

set_option maxRecDepth 16384

noncomputable section

namespace Cert.KernelIdeal.Run

open Idealize.ShloMosaic Idealize.ShloMosaic.TcCoe
open Cert.KernelIdeal Cert.KernelIdeal.Gen
open Cert.Pool (rowOf)

variable (m : (ℓ : Loc nD τ sig) → Buf (Elt Ideal) ℓ)

/-- The rows' array, the segments' array and the score weights as the run finds them. -/
abbrev argX (c : Dev nD) : S16384x1024.Idx → EReal := m ((c.tc : Thread nD τ).loc main_arg0)
abbrev argId (c : Dev nD) : S16384.Idx → BitVec 32 := m ((c.tc : Thread nD τ).loc main_arg1)
abbrev argW (c : Dev nD) : S1x1024.Idx → EReal := m ((c.tc : Thread nD τ).loc main_arg2)

/-- The block numbers the windows read at a point. -/
theorem idx0 : ∀ t : Fin cfg0.N, win0_0.index t (0 : Fin 3) = min t.val 7 ∧ win0_0.index t (1 : Fin 3) = 0 ∧ win0_0.index t (2 : Fin 3) = 0 :=
  (by decide +kernel : ∀ t : Fin grid0.N, _)
theorem idx1 : ∀ t : Fin cfg0.N, win0_1.index t (0 : Fin 2) = min t.val 7 ∧ win0_1.index t (1 : Fin 2) = 0 :=
  (by decide +kernel : ∀ t : Fin grid0.N, _)
theorem idx2 : ∀ t : Fin cfg0.N, win0_2.index t (0 : Fin 2) = min t.val 7 ∧ win0_2.index t (1 : Fin 2) = 1 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)

/-- The first columns' block: row `r` of block `t`, columns from 0. -/
theorem blk1_apply (c : Dev nD) (t : Fin cfg0.N) (ht : t.val < 8) (r : Fin 2048) (k : Fin 512) :
    (iblk m c 1 t : S2048x512.Idx → EReal) (ix2 r k) = argX m c (ix2 (rowOf t.val r) ⟨k.val, by omega⟩) := by
  obtain ⟨e0, e1⟩ := idx1 t
  have hb0 : (((cfg0.win 1).blk t).view.emb (ix2 r k) 0).val = win0_1.index t (0 : Fin 2) * 2048 + 1 * r.val := rfl
  have hb1 : (((cfg0.win 1).blk t).view.emb (ix2 r k) 1).val = win0_1.index t (1 : Fin 2) * 512 + 1 * k.val := rfl
  show V m c main_arg0 (((cfg0.win 1).blk t).view.emb (ix2 r k)) = _
  rw [V_main_arg0]
  refine congrArg (argX m c) (funext fun a => Fin.ext ?_)
  match a with
  | ⟨0, _⟩ =>
    show (((cfg0.win 1).blk t).view.emb (ix2 r k) 0).val = (2048 * t.val + r.val) % 16384
    rw [hb0]; omega
  | ⟨1, _⟩ =>
    show (((cfg0.win 1).blk t).view.emb (ix2 r k) 1).val = k.val
    rw [hb1]; omega

/-- The last columns' block: row `r` of block `t`, columns from 512. -/
theorem blk2_apply (c : Dev nD) (t : Fin cfg0.N) (ht : t.val < 8) (r : Fin 2048) (k : Fin 512) :
    (iblk m c 2 t : S2048x512.Idx → EReal) (ix2 r k) = argX m c (ix2 (rowOf t.val r) ⟨512 + k.val, by omega⟩) := by
  obtain ⟨e0, e1⟩ := idx2 t
  have hb0 : (((cfg0.win 2).blk t).view.emb (ix2 r k) 0).val = win0_2.index t (0 : Fin 2) * 2048 + 1 * r.val := rfl
  have hb1 : (((cfg0.win 2).blk t).view.emb (ix2 r k) 1).val = win0_2.index t (1 : Fin 2) * 512 + 1 * k.val := rfl
  show V m c main_arg0 (((cfg0.win 2).blk t).view.emb (ix2 r k)) = _
  rw [V_main_arg0]
  refine congrArg (argX m c) (funext fun a => Fin.ext ?_)
  match a with
  | ⟨0, _⟩ =>
    show (((cfg0.win 2).blk t).view.emb (ix2 r k) 0).val = (2048 * t.val + r.val) % 16384
    rw [hb0]; omega
  | ⟨1, _⟩ =>
    show (((cfg0.win 2).blk t).view.emb (ix2 r k) 1).val = 512 + k.val
    rw [hb1]; omega

/-- The segments' array in blocks is the segments' array, 2048 to a block. -/
theorem V_ids (c : Dev nD) : V m c main_call0_v0 = shapeCast S8x1x2048 (argId m c) shapeCasts_S16384_S8x1x2048 := by
  dsimp only [V]
  after_results
  rfl

/-- The score weights at the kernel's precision are the score weights. -/
theorem V_w (c : Dev nD) : V m c main_call0_v1 = argW m c := by
  dsimp only [V]
  after_results
  rfl

/-- The segments' block: row `r` of block `t`. -/
theorem blk0_apply (c : Dev nD) (t : Fin cfg0.N) (ht : t.val < 8) (r : Fin 2048) :
    (iblk m c 0 t : S1x1x2048.Idx → BitVec 32) (ix3 0 0 r) = argId m c (ix1 (rowOf t.val r)) := by
  obtain ⟨e0, e1, e2⟩ := idx0 t
  have hb0 : (((cfg0.win 0).blk t).view.emb (ix3 0 0 r) 0).val = win0_0.index t (0 : Fin 3) * 1 + 1 * 0 := rfl
  have hb1 : (((cfg0.win 0).blk t).view.emb (ix3 0 0 r) 1).val = win0_0.index t (1 : Fin 3) * 1 + 1 * 0 := rfl
  have hb2 : (((cfg0.win 0).blk t).view.emb (ix3 0 0 r) 2).val = win0_0.index t (2 : Fin 3) * 2048 + 1 * r.val := rfl
  show V m c main_call0_v0 (((cfg0.win 0).blk t).view.emb (ix3 0 0 r)) = _
  rw [V_ids]
  refine shapeCast_apply _ _ _ _ ?_
  show ((⟨1, ![16384]⟩ : Shape).rowMajor _).val = ((⟨3, ![8, 1, 2048]⟩ : Shape).rowMajor _).val
  rw [Shape.rowMajor_val_one, Shape.rowMajor_val_three]
  show (2048 * t.val + r.val) % 16384 = ((((cfg0.win 0).blk t).view.emb (ix3 0 0 r) 0).val * 1 + (((cfg0.win 0).blk t).view.emb (ix3 0 0 r) 1).val) * 2048
    + (((cfg0.win 0).blk t).view.emb (ix3 0 0 r) 2).val
  rw [hb0, hb1, hb2]
  omega

/-- The score weights' block: all of them. -/
theorem blk3_apply (c : Dev nD) (t : Fin cfg0.N) (k : Fin 1024) :
    (iblk m c 3 t : S1x1024.Idx → EReal) (ix2 0 k) = argW m c (ix2 0 k) := by
  obtain ⟨e0, e1⟩ := idx3 t
  have hb0 : (((cfg0.win 3).blk t).view.emb (ix2 0 k) 0).val = win0_3.index t (0 : Fin 2) * 1 + 1 * 0 := rfl
  have hb1 : (((cfg0.win 3).blk t).view.emb (ix2 0 k) 1).val = win0_3.index t (1 : Fin 2) * 1024 + 1 * k.val := rfl
  show V m c main_call0_v1 (((cfg0.win 3).blk t).view.emb (ix2 0 k)) = _
  rw [V_w]
  refine congrArg (argW m c) (funext fun a => Fin.ext ?_)
  match a with
  | ⟨0, _⟩ =>
    show (((cfg0.win 3).blk t).view.emb (ix2 0 k) 0).val = 0
    rw [hb0]; omega
  | ⟨1, _⟩ =>
    show (((cfg0.win 3).blk t).view.emb (ix2 0 k) 1).val = k.val
    rw [hb1]; omega

end Cert.KernelIdeal.Run

end
-- ==== Proof.KernelIdeal.Payloads.lean ====
/- The kernel's stored values over the extended reals, read at an index: the scores, the block maximum, the staged rows
   and weights, one step of the running maximum and sums, and the final division. -/
module

public import proofs.«01_k».proof.Proof.KernelIdeal.Slots
public import Idealize.ShloMosaic.Lib.Pointwise

@[expose] public section

set_option maxRecDepth 16384

noncomputable section

namespace Cert.KernelIdeal.Run

open Idealize.ShloMosaic Idealize.ShloMosaic.TcCoe
open Cert.KernelIdeal Cert.KernelIdeal.Gen

/-- A row's score: the weights times the row, the two halves of the columns apart. -/
theorem score_apply (w : Vec Ideal S1x1024 .bf16) (xa xb : Vec Ideal S2048x512 .f32) (r : Fin 2048) :
    k0_pay10 w xa xb (ix2 0 r) = ∑ x : Fin 512, w (ix2 0 ⟨x.val, by omega⟩) * xa (ix2 r x)
      + ∑ x : Fin 512, w (ix2 0 ⟨512 + x.val, by omega⟩) * xb (ix2 r x) := by
  pointwise [k0_pay10, k0_pay6, k0_pay7]

/-- The block maximum: the largest score of the block's rows, from `-∞`. -/
theorem blockMax_apply (w : Vec Ideal S1x1024 .bf16) (xa xb : Vec Ideal S2048x512 .f32) :
    blockMax w xa xb (ix2 0 0) = Finset.fold max (Ideal.ofBits FTy.f32 4286578688#32) (fun x : Fin 1 × Fin 2048 => k0_pay10 w xa xb (ix2 0 x.2)) Finset.univ := by
  pointwise [blockMax, k0_pay12, k0_pay11]

/-- A staged weight: the exponential of the row's score under the block maximum if the row is in the segment, else zero. -/
theorem weightsOf_apply (ids : Vec Ideal S1x1x2048 .i32) (w : Vec Ideal S1x1024 .bf16) (xa xb : Vec Ideal S2048x512 .f32) (g : Fin 16) (r : Fin 2048) :
    weightsOf ids w xa xb (ix3 0 g r)
      = Scalar.select (IntOp.cmpi .eq (BitVec.ofNat 32 g.val) (ids (ix3 0 0 r))) (Ideal.exp (k0_pay10 w xa xb (ix2 0 r) - blockMax w xa xb (ix2 0 0))) 0 := by
  have e : k0_pay11 w xa xb (ix2 0 0) = blockMax w xa xb (ix2 0 0) := by pointwise [blockMax, k0_pay12]
  rw [← e]
  pointwise [weightsOf, k0_pay4, k0_pay13, k0_pay14, k0_pay15]

/-- A staged row element in the first columns. -/
theorem rowsOf_apply_lt (xa xb : Vec Ideal S2048x512 .f32) (r : Fin 2048) (k : Fin 1024) (h : k.val < 512) :
    rowsOf xa xb (ix3 0 r k) = xa (ix2 r ⟨k.val, h⟩) := by
  unfold rowsOf beside
  rw [dif_pos (show (ix3 (n0 := 1) (n1 := 2048) (n2 := 1024) 0 r k 2).val < 512 from h)]
  pointwise [k0_pay8, k0_pay6]
/-- A staged row element in the last columns. -/
theorem rowsOf_apply_ge (xa xb : Vec Ideal S2048x512 .f32) (r : Fin 2048) (k : Fin 1024) (h : ¬ k.val < 512) :
    rowsOf xa xb (ix3 0 r k) = xb (ix2 r ⟨k.val - 512, by omega⟩) := by
  unfold rowsOf beside
  rw [dif_neg (show ¬ (ix3 (n0 := 1) (n1 := 2048) (n2 := 1024) 0 r k 2).val < 512 from h)]
  pointwise [k0_pay9, k0_pay7]

/-- The running maximum after a block. -/
theorem pay20_apply (b m : Vec Ideal S1x1 .f32) : k0_pay20 b m (ix2 0 0) = max (m (ix2 0 0)) (b (ix2 0 0)) := by
  pointwise [k0_pay20, k0_pay17]

/-- The running sum of weights after a block. -/
theorem pay21_apply (we : Vec Ideal S1x16x2048 .bf16) (b m : Vec Ideal S1x1 .f32) (d : Vec Ideal S16x1 .f32) (g : Fin 16) :
    k0_pay21 we b m d (ix2 g 0) = Ideal.exp (m (ix2 0 0) - max (m (ix2 0 0)) (b (ix2 0 0))) * d (ix2 g 0)
      + Ideal.exp (b (ix2 0 0) - max (m (ix2 0 0)) (b (ix2 0 0))) * ∑ x : Fin 2048, we (ix3 0 g x) := by
  pointwise [k0_pay21, k0_pay16, k0_pay17, k0_pay18, k0_pay19]

/-- The running weighted sum of rows after a block. -/
theorem pay22_apply (we : Vec Ideal S1x16x2048 .bf16) (xc : Vec Ideal S1x2048x1024 .bf16) (b m : Vec Ideal S1x1 .f32) (d : Vec Ideal S16x1024 .f32)
    (g : Fin 16) (k : Fin 1024) :
    k0_pay22 we xc b m d (ix2 g k) = Ideal.exp (m (ix2 0 0) - max (m (ix2 0 0)) (b (ix2 0 0))) * d (ix2 g k)
      + Ideal.exp (b (ix2 0 0) - max (m (ix2 0 0)) (b (ix2 0 0))) * ∑ x : Fin 2048, we (ix3 0 g x) * xc (ix3 0 x k) := by
  pointwise [k0_pay22, k0_pay16, k0_pay17, k0_pay18, k0_pay19]

/-- The final division: by the sum of weights where it is positive, else by one. -/
theorem pay5_apply (d : Vec Ideal S16x1 .f32) (o : Vec Ideal S16x1024 .f32) (g : Fin 16) (k : Fin 1024) :
    k0_pay5 d o (ix2 g k) = Ideal.div (o (ix2 g k)) (if 0 < d (ix2 g 0) then d (ix2 g 0) else 1) := by
  pointwise [k0_pay5]

/-- The sums start at zero. -/
theorem pay2_apply (g : Fin 16) : (k0_pay2 (F := Ideal)) (ix2 g 0) = 0 := by
  pointwise [k0_pay2]
theorem pay3_apply (g : Fin 16) (k : Fin 1024) : (k0_pay3 (F := Ideal)) (ix2 g k) = 0 := by
  pointwise [k0_pay3]
/-- The running maximum starts at a real number. -/
theorem pay1_apply : ∃ r : ℝ, (k0_pay1 (F := Ideal)) (ix2 0 0) = (r : EReal) := by
  have e : (k0_pay1 (F := Ideal)) (ix2 0 0) = Ideal.ofBits FTy.f32 4048155338#32 := by pointwise [k0_pay1]
  rw [e]
  refine ⟨-(13234890 * 2 ^ 76), ?_⟩
  simp [Ideal.ofBits, Ideal.ieee]
/-- The bit pattern of `-∞`. -/
theorem ofBits_neg_inf : Ideal.ofBits FTy.f32 4286578688#32 = (⊥ : EReal) := by
  simp [Ideal.ofBits, Ideal.ieee]

end Cert.KernelIdeal.Run

end
-- ==== Proof.KernelIdeal.Value.lean ====
/- The kernel's result over the extended reals, for real arguments: at segment `g` and column `k` the sum of the rows
   weighted by `exp (score - M)` over the segment's rows, divided by the sum of those weights where it is positive. -/
module

public import proofs.«01_k».proof.Proof.KernelIdeal.Final
public import proofs.«01_k».proof.Proof.KernelIdeal.Blocks
public import proofs.«01_k».proof.Proof.KernelIdeal.Payloads

@[expose] public section

set_option maxRecDepth 16384

noncomputable section

namespace Cert.KernelIdeal.Run

open Idealize.ShloMosaic Idealize.ShloMosaic.TcCoe
open Cert.KernelIdeal Cert.KernelIdeal.Gen
open Cert.Pool (rowOf blockSum part total score)

variable (m : (ℓ : Loc nD τ sig) → Buf (Elt Ideal) ℓ)

/-- A row's segment. -/
def seg (c : Dev nD) (n : Fin 16384) : ℕ := (argId m c (ix1 n)).toNat

variable (c : Dev nD) (x : Fin 16384 → Fin 1024 → ℝ) (w : Fin 1024 → ℝ)
  (hx : ∀ n k, argX m c (ix2 n k) = (x n k : EReal)) (hw : ∀ k, argW m c (ix2 0 k) = (w k : EReal))

/-- The two half products of a row with the weights, for real operands, are the whole product. -/
theorem score_real (wv : S1x1024.Idx → EReal) (xa xb : S2048x512.Idx → EReal) (r : Fin 2048) (y u : Fin 1024 → ℝ)
    (hw : ∀ k, wv (ix2 0 k) = (u k : EReal)) (ha : ∀ k : Fin 512, xa (ix2 r k) = (y ⟨k.val, by omega⟩ : EReal))
    (hb : ∀ k : Fin 512, xb (ix2 r k) = (y ⟨512 + k.val, by omega⟩ : EReal)) :
    k0_pay10 (F := Ideal) wv xa xb (ix2 0 r) = ((∑ k, u k * y k : ℝ) : EReal) := by
  refine (score_apply wv xa xb r).trans ?_
  simp only [hw, ha, hb, ← EReal.coe_mul]
  rw [← Cert.Pool.coe_sum, ← Cert.Pool.coe_sum, ← EReal.coe_add]
  exact congrArg _ (Fin.sum_univ_add (a := 512) (b := 512) fun k : Fin 1024 => u k * y k).symm

include hx hw in
/-- The scores a point stages are its rows' scores. -/
theorem score_blk (t : Fin cfg0.N) (ht : t.val < 8) (r : Fin 2048) :
    k0_pay10 (iblk m c 3 t) (iblk m c 1 t) (iblk m c 2 t) (ix2 0 r) = (score x w (rowOf t.val r) : EReal) :=
  score_real _ _ _ r (x (rowOf t.val r)) w (fun k => (blk3_apply m c t k).trans (hw k))
    (fun k => (blk1_apply m c t ht r k).trans (hx _ _)) fun k => (blk2_apply m c t ht r k).trans (hx _ _)

include hx hw in
/-- The block maximum a point stages is a real number. -/
theorem stB_real (t : Fin cfg0.N) (ht : t.val < 8) : ∃ B : ℝ, stB m c t (ix2 0 0) = (B : EReal) := by
  obtain ⟨B, hB⟩ := Cert.Pool.fold_max_real Finset.univ
    (fun y : Fin 1 × Fin 2048 => k0_pay10 (iblk m c 3 t) (iblk m c 1 t) (iblk m c 2 t) (ix2 0 y.2)) (0, 0) (Finset.mem_univ _)
    fun y => ⟨_, score_blk m c x w hx hw t ht y.2⟩
  refine ⟨B, (blockMax_apply _ _ _).trans ?_⟩
  rw [ofBits_neg_inf]
  exact hB

include hx hw in
/-- The weights a point stages, under its block maximum. -/
theorem stE_apply (t : Fin cfg0.N) (ht : t.val < 8) (B : ℝ) (hB : stB m c t (ix2 0 0) = (B : EReal)) (g : Fin 16) (r : Fin 2048) :
    stE m c t (ix3 0 g r) = ((if seg m c (rowOf t.val r) = g.val then Real.exp (score x w (rowOf t.val r) - B) else 0 : ℝ) : EReal) := by
  refine (weightsOf_apply _ _ _ _ g r).trans ?_
  rw [score_blk m c x w hx hw t ht r, show blockMax (iblk m c 3 t) (iblk m c 1 t) (iblk m c 2 t) (ix2 0 0) = (B : EReal) from hB,
    blk0_apply m c t ht r, ← EReal.coe_sub, Ideal.exp_coe, WordCmp.cmpi_eq_eq_toNat, WordCmp.select_decide]
  have hg : (BitVec.ofNat 32 g.val).toNat = g.val := by rw [BitVec.toNat_ofNat]; omega
  rw [hg]
  change (if g.val = seg m c (rowOf t.val r) then _ else _) = _
  by_cases h : seg m c (rowOf t.val r) = g.val
  · rw [if_pos h, if_pos (show g.val = _ from h.symm)]
  · rw [if_neg h, if_neg (show ¬ g.val = _ from fun h' => h h'.symm)]
    rfl

include hx in
/-- The rows a point stages are its rows. -/
theorem stX_apply (t : Fin cfg0.N) (ht : t.val < 8) (r : Fin 2048) (k : Fin 1024) :
    stX m c t (ix3 0 r k) = (x (rowOf t.val r) k : EReal) := by
  by_cases h : k.val < 512
  · refine (rowsOf_apply_lt _ _ r k h).trans ?_
    rw [blk1_apply m c t ht, hx]
  · refine (rowsOf_apply_ge _ _ r k h).trans ?_
    rw [blk2_apply m c t ht, hx]
    refine congrArg (fun k => (x (rowOf t.val r) k : EReal)) (Fin.ext ?_)
    show 512 + (k.val - 512) = k.val
    omega

include hx hw in
/-- After point `n` the running maximum is some real number `M`, and the running sums are the sums over the first `n`
    blocks under the shift `M`. -/
theorem acc_value (n : ℕ) (h : n < cfg0.N) (hn : n ≤ 8) : ∃ M : ℝ, (acc m c n h).1 (ix2 0 0) = (M : EReal)
    ∧ (∀ g : Fin 16, (acc m c n h).2.1 (ix2 g 0) = (part (score x w) (fun _ => 1) (seg m c) g.val n M : EReal))
    ∧ ∀ (g : Fin 16) (k : Fin 1024), (acc m c n h).2.2 (ix2 g k) = (part (score x w) (fun i => x i k) (seg m c) g.val n M : EReal) := by
  induction n with
  | zero =>
    obtain ⟨M, hM⟩ := pay1_apply
    refine ⟨M, hM, fun g => ?_, fun g k => ?_⟩
    · rw [Cert.Pool.part_zero]; exact pay2_apply g
    · rw [Cert.Pool.part_zero]; exact pay3_apply g k
  | succ n ih =>
    obtain ⟨M, hM, hD, hO⟩ := ih (Nat.lt_of_succ_lt h) (by omega)
    have ht : (⟨n, Nat.lt_of_succ_lt h⟩ : Fin cfg0.N).val < 8 := by show n < 8; omega
    obtain ⟨B, hB⟩ := stB_real m c x w hx hw ⟨n, Nat.lt_of_succ_lt h⟩ ht
    have hE := stE_apply m c x w hx hw ⟨n, Nat.lt_of_succ_lt h⟩ ht B hB
    have hX := stX_apply m c x hx ⟨n, Nat.lt_of_succ_lt h⟩ ht
    rw [acc_succ]
    dsimp only
    refine ⟨max M B, ?_, fun g => ?_, fun g k => ?_⟩
    · rw [pay20_apply, hM, hB, Cert.Pool.coe_max]
    · rw [pay21_apply, hM, hB, hD, Cert.Pool.coe_max, ← EReal.coe_sub, ← EReal.coe_sub, Ideal.exp_coe, Ideal.exp_coe]
      rw [Finset.sum_congr rfl fun r _ => hE g r, ← Cert.Pool.coe_sum, ← EReal.coe_mul, ← EReal.coe_mul, ← EReal.coe_add]
      rw [← Cert.Pool.part_step _ _ _ _ n M B]
      unfold blockSum
      simp only [mul_one]
    · rw [pay22_apply, hM, hB, hO, Cert.Pool.coe_max, ← EReal.coe_sub, ← EReal.coe_sub, Ideal.exp_coe, Ideal.exp_coe]
      rw [Finset.sum_congr rfl fun r _ => (congrArg₂ (· * ·) (hE g r) (hX r k)).trans (EReal.coe_mul _ _).symm, ← Cert.Pool.coe_sum, ← EReal.coe_mul, ← EReal.coe_mul, ← EReal.coe_add]
      rw [← Cert.Pool.part_step _ _ _ _ n M B]
      rfl

include hx hw in
/-- The result: the weighted sum of the segment's rows over the sum of the weights, under some real shift `M`. -/
theorem result_value : ∃ M : ℝ, ∀ (g : Fin 16) (k : Fin 1024), result m c (ix2 g k)
    = ((total (score x w) (fun i => x i k) (seg m c) g.val M
      * (1 / if 0 < total (score x w) (fun _ => 1) (seg m c) g.val M then total (score x w) (fun _ => 1) (seg m c) g.val M else 1) : ℝ) : EReal) := by
  obtain ⟨M, -, hD, hO⟩ := acc_value m c x w hx hw 8 eight_lt (le_refl _)
  refine ⟨M, fun g k => ?_⟩
  unfold result
  rw [pay5_apply, hD, hO, Cert.Pool.part_all, Cert.Pool.part_all]
  by_cases h : 0 < total (score x w) (fun _ => 1) (seg m c) g.val M
  · rw [if_pos h, if_pos (EReal.coe_pos.mpr h), Ideal.div_coe h.ne', ← EReal.coe_mul]
  · rw [if_neg h, if_neg (fun h' => h (EReal.coe_pos.mp h')), ← EReal.coe_one, Ideal.div_coe one_ne_zero, ← EReal.coe_mul]

end Cert.KernelIdeal.Run

end
-- ==== Proof.ReferenceIdeal.Lands.lean ====
/- Where the reference's two scatters put their updates: update `i` (row `i`) goes to the segment its id names. -/
module

public import proofs.«01_k».proof.Proof.Gen.ReferenceIdeal
public import Idealize.ShloMosaic.Lib.Routing.OpsPair
public import Idealize.ShloMosaic.Lib.Routing.OpsSet
public import Idealize.ShloMosaic.Lib.IdealHost

@[expose] public section

noncomputable section

namespace Cert.ReferenceIdeal.Pooled

open Idealize.ShloMosaic Cert.ReferenceIdeal Cert.ReferenceIdeal.Gen

/-- In the scatter of weights, update `i` reads its segment at row `i` of the id column. -/
theorem siIdx1 (i : Fin 16384) (k) :
    scatter_S16_S16384x1_S16384_n_0_0_1.siIdx (ValueIdx.ix1 i) k = ValueIdx.ix2 i (0 : Fin 1) := by
  funext b
  match b with
  | ⟨0, _⟩ => rfl
  | ⟨1, _⟩ => exact Subsingleton.elim (α := Fin 1) _ _

/-- In the scatter of rows, update `(i, k)` reads its segment at row `i` of the id column. -/
theorem siIdx2 (i : Fin 16384) (j : Fin 1024) (k) :
    scatter_S16x1024_S16384x1_S16384x1024_1_0_0_1.siIdx (ValueIdx.ix2 i j) k = ValueIdx.ix2 i (0 : Fin 1) := by
  funext b
  match b with
  | ⟨0, _⟩ => rfl
  | ⟨1, _⟩ => exact Subsingleton.elim (α := Fin 1) _ _

/-- In the scatter of weights, update `i` lands at segment `g` exactly when its id, read signed, is `g`. -/
theorem lands1 (idx : IVec S16384x1 32) (i : Fin 16384) (g : Fin 16) :
    scatter_S16_S16384x1_S16384_n_0_0_1.resultIdx? (ValueIdx.ix1 i) idx = some (ValueIdx.ix1 g)
      ↔ (idx (ValueIdx.ix2 i (0 : Fin 1))).toInt = (g.val : Int) := by
  refine (Routing.resultIdx?_ix1 _ _ _ g).trans ?_
  have hs : scatter_S16_S16384x1_S16384_n_0_0_1.start (ValueIdx.ix1 i) idx 0 = (idx (ValueIdx.ix2 i (0 : Fin 1))).toInt := by
    rw [← siIdx1 i ⟨0, by decide⟩]; rfl
  have hw : scatter_S16_S16384x1_S16384_n_0_0_1.window (ValueIdx.ix1 i) 0 = 0 := rfl
  rw [hs, hw, Nat.cast_zero, add_zero]

/-- In the scatter of rows, update `(i, j)` lands at `(g, k)` exactly when its id, read signed, is `g` and `j` is `k`. -/
theorem lands2 (idx : IVec S16384x1 32) (i : Fin 16384) (j : Fin 1024) (g : Fin 16) (k : Fin 1024) :
    scatter_S16x1024_S16384x1_S16384x1024_1_0_0_1.resultIdx? (ValueIdx.ix2 i j) idx = some (ValueIdx.ix2 g k)
      ↔ (idx (ValueIdx.ix2 i (0 : Fin 1))).toInt = (g.val : Int) ∧ j = k := by
  refine (Routing.resultIdx?_ix2 _ _ _ g k).trans ?_
  have hs : scatter_S16x1024_S16384x1_S16384x1024_1_0_0_1.start (ValueIdx.ix2 i j) idx 0 = (idx (ValueIdx.ix2 i (0 : Fin 1))).toInt := by
    rw [← siIdx2 i j ⟨0, by decide⟩]; rfl
  have hw : scatter_S16x1024_S16384x1_S16384x1024_1_0_0_1.window (ValueIdx.ix2 i j) 0 = 0 := rfl
  have hs1 : scatter_S16x1024_S16384x1_S16384x1024_1_0_0_1.start (ValueIdx.ix2 i j) idx 1 = 0 := rfl
  have hw1 : scatter_S16x1024_S16384x1_S16384x1024_1_0_0_1.window (ValueIdx.ix2 i j) 1 = j.val := rfl
  rw [hs, hw, hs1, hw1, Nat.cast_zero, add_zero, zero_add, Fin.ext_iff, Nat.cast_inj]

end Cert.ReferenceIdeal.Pooled

end
-- ==== Proof.ReferenceIdeal.Pooled.lean ====
/- The reference's result over the extended reals, for real float arguments and any ids: at segment `g` and column `k` the sum
   of the segment's rows, each times its weight `exp (score - c) / (sum of the segment's weights)`, under some real shift `c`. -/
module

public import proofs.«01_k».proof.Proof.ReferenceIdeal.Lands
public import proofs.«01_k».proof.Proof.Gen.ReferenceIdeal.Read
public import proofs.«01_k».proof.Proof.Pool
public import Idealize.ShloMosaic.Lib.Pointwise

@[expose] public section

noncomputable section

namespace Cert.ReferenceIdeal.Pooled

open Idealize.ShloMosaic Cert.ReferenceIdeal Cert.ReferenceIdeal.Gen Cert.ReferenceIdeal.Read
open Cert.Pool (total score)

/-- A value whose absolute value is below `+∞` is a real number. -/
theorem real_of_abs_lt (a : EReal) (h : Ideal.cmp .olt (max a (-a)) (Ideal.ofBits FTy.f32 2139095040#32) = 1#1) : ∃ r : ℝ, a = r := by
  have ht : Ideal.ofBits FTy.f32 2139095040#32 = ⊤ := by simp [Ideal.ofBits, Ideal.ieee]
  rw [ht] at h
  have hl : max a (-a) < ⊤ := by
    by_contra hn
    have : Ideal.cmp .olt (max a (-a)) ⊤ = BitVec.ofBool (decide (max a (-a) < ⊤)) := rfl
    rw [this, decide_eq_false hn] at h
    exact absurd h (by decide)
  induction a using EReal.rec with
  | bot => exact absurd hl (by simp)
  | coe r => exact ⟨r, rfl⟩
  | top => exact absurd hl (by simp)

variable (x0 : S16384x1024.Idx → EReal) (x1 : IVec S16384 32) (x2 : S1x1024.Idx → EReal)

/-- A row's segment. -/
def seg (n : Fin 16384) : ℕ := (x1 (ValueIdx.ix1 n)).toNat

variable (x : Fin 16384 → Fin 1024 → ℝ) (w : Fin 1024 → ℝ)
  (hx : ∀ n k, x0 (ValueIdx.ix2 n k) = (x n k : EReal)) (hw : ∀ k, x2 (ValueIdx.ix2 (0 : Fin 1) k) = (w k : EReal))

include hx hw in
/-- The reference's score of a row. -/
theorem v2_value (n : Fin 16384) : val_main_v2 (F := Ideal) x0 x2 (ValueIdx.ix1 n) = (score x w n : EReal) := by
  rw [val_main_v2_apply, val_main_v1_apply]
  unfold score
  rw [Cert.Pool.coe_sum]
  refine Finset.sum_congr rfl fun k _ => ?_
  rw [val_main_v0_apply, mul_comm, EReal.coe_mul]
  refine congrArg₂ (· * ·) ((congrArg x2 ?_).trans (hw k)) ((congrArg x0 ?_).trans (hx n k))
  · funext a
    match a with
    | ⟨0, _⟩ => rfl
    | ⟨1, _⟩ => rfl
  · funext a
    match a with
    | ⟨0, _⟩ => exact Fin.ext (Nat.div_one _)
    | ⟨1, _⟩ => rfl

/-- A segment's shift (its largest score where that is finite, else zero) is a real number. -/
theorem v15_real (g : Fin 16) : ∃ c : ℝ, val_main_v15 (F := Ideal) x0 x1 x2 (ValueIdx.ix1 g) = (c : EReal) := by
  rw [val_main_v15_apply]
  by_cases h : val_main_v14 (F := Ideal) x0 x1 x2 (ValueIdx.ix1 g) = 1#1
  · rw [h]
    rw [val_main_v14_apply, val_main_v13_apply] at h
    exact real_of_abs_lt _ h
  · rw [show Scalar.select (val_main_v14 (F := Ideal) x0 x1 x2 (ValueIdx.ix1 g)) (val_main_v11 (F := Ideal) x0 x1 x2 (ValueIdx.ix1 g))
      (val_main_call1_v1 (F := Ideal) (ValueIdx.ix1 g)) = val_main_call1_v1 (F := Ideal) (ValueIdx.ix1 g) from if_neg h,
      val_main_call1_v1_apply]
    exact ⟨0, Ideal.ofBits_zero_f32⟩

/-- Every segment's shift, as a real number. -/
def shift (g : Fin 16) : ℝ := Classical.choose (v15_real x0 x1 x2 g)

theorem v15_value (g : Fin 16) : val_main_v15 (F := Ideal) x0 x1 x2 (ValueIdx.ix1 g) = (shift x0 x1 x2 g : EReal) :=
  Classical.choose_spec (v15_real x0 x1 x2 g)

/-- The index the first gather reads at a row of segment `g` is `g`. -/
theorem v21_value (n : Fin 16384) (g : Fin 16) (h : seg x1 n = g.val) : val_main_v21 (F := Ideal) x1 (ValueIdx.ix2 n (0 : Fin 1)) = BitVec.ofNat 32 g.val := by
  rw [← h]
  rw [val_main_v21_apply, val_main_v20_apply, val_main_v17_apply, val_main_v16_apply]
  have e : idx_main_v21 (ValueIdx.ix2 n (0 : Fin 1)) = ValueIdx.ix1 n := by
    funext a
    match a with
    | ⟨0, _⟩ => rfl
  rw [e]
  refine (Routing.wrap_of_lt _ _ ?_).trans (by unfold seg; rw [BitVec.ofNat_toNat, BitVec.setWidth_eq])
  unfold seg at h
  omega

/-- The index the second gather reads at a row of segment `g` is `g`. -/
theorem v33_value (n : Fin 16384) (g : Fin 16) (h : seg x1 n = g.val) : val_main_v33 (F := Ideal) x1 (ValueIdx.ix2 n (0 : Fin 1)) = BitVec.ofNat 32 g.val := by
  rw [← h]
  rw [val_main_v33_apply, val_main_v32_apply, val_main_v29_apply, val_main_v28_apply]
  have e : idx_main_v33 (ValueIdx.ix2 n (0 : Fin 1)) = ValueIdx.ix1 n := by
    funext a
    match a with
    | ⟨0, _⟩ => rfl
  rw [e]
  refine (Routing.wrap_of_lt _ _ ?_).trans (by unfold seg; rw [BitVec.ofNat_toNat, BitVec.setWidth_eq])
  unfold seg at h
  omega

include hx hw in
/-- The weight of a row of segment `g` before the division. -/
theorem v24_value (n : Fin 16384) (g : Fin 16) (h : seg x1 n = g.val) : val_main_v24 (F := Ideal) x0 x1 x2 (ValueIdx.ix1 n)
    = (Real.exp (score x w n - shift x0 x1 x2 g) : EReal) := by
  rw [val_main_v24_apply, val_main_v23_apply, v2_value x0 x2 x w hx hw]
  have e : val_main_v22 (F := Ideal) x0 x1 x2 (ValueIdx.ix1 n) = (shift x0 x1 x2 g : EReal) :=
    (Routing.gather_take1 gather_S16_S16384x1_S16384_n_0_n_n_0_1_1 rfl rfl rfl rfl _ _ n g
      (v21_value x1 n g h) (by decide)).trans (v15_value x0 x1 x2 _)
  rw [e]
  show Ideal.exp ((score x w n : EReal) - (shift x0 x1 x2 g : EReal)) = _
  rw [← EReal.coe_sub, Ideal.exp_coe]

/-- An id column's word, read signed, names segment `g` exactly when the row's segment is `g`. -/
theorem toInt_eq (n : Fin 16384) (g : Fin 16) : (x1 (ValueIdx.ix1 n)).toInt = (g.val : Int) ↔ seg x1 n = g.val := by
  have e := BitVec.toInt_eq_toNat_cond (x1 (ValueIdx.ix1 n))
  have hb := (x1 (ValueIdx.ix1 n)).isLt
  have hg := g.isLt
  unfold seg
  split at e <;> omega

include hx hw in
/-- A segment's sum of weights. -/
theorem v27_value (g : Fin 16) : val_main_v27 (F := Ideal) x0 x1 x2 (ValueIdx.ix1 g)
    = (total (score x w) (fun _ => 1) (seg x1) g.val (shift x0 x1 x2 g) : EReal) := by
  show val_main_v25 (F := Ideal) (ValueIdx.ix1 g) + ∑ j ∈ Finset.univ.filter (fun j => scatter_S16_S16384x1_S16384_n_0_0_1.resultIdx? j
    (val_main_v26 (F := Ideal) x1) = some (ValueIdx.ix1 g)), val_main_v24 (F := Ideal) x0 x1 x2 j = _
  rw [val_main_v25_apply, val_main_cst_4_apply]
  rw [show (FloatOps.ofBits (F := Ideal) FTy.f32 0x00000000#32 : EReal) = 0 from Ideal.ofBits_zero_f32, zero_add, Finset.sum_filter]
  refine (sum_idx1 _).trans ?_
  unfold total
  rw [Cert.Pool.coe_sum]
  refine Finset.sum_congr rfl fun n _ => ?_
  show (if scatter_S16_S16384x1_S16384_n_0_0_1.resultIdx? (ValueIdx.ix1 n) (val_main_v26 (F := Ideal) x1) = some (ValueIdx.ix1 g)
    then val_main_v24 (F := Ideal) x0 x1 x2 (ValueIdx.ix1 n) else 0) = _
  have e : val_main_v26 (F := Ideal) x1 (ValueIdx.ix2 n (0 : Fin 1)) = x1 (ValueIdx.ix1 n) := by
    rw [val_main_v26_apply]
    refine congrArg x1 (funext fun a => ?_)
    match a with
    | ⟨0, _⟩ => rfl
  by_cases h : seg x1 n = g.val
  · rw [v24_value x0 x1 x2 x w hx hw n g h, if_pos ((lands1 _ n g).mpr ((congrArg BitVec.toInt e).trans ((toInt_eq x1 n g).mpr h))), if_pos h, mul_one]
  · rw [if_neg (fun h' => h ((toInt_eq x1 n g).mp ((congrArg BitVec.toInt e).symm.trans ((lands1 _ n g).mp h')))), if_neg h, zero_mul]
    rfl

include hx hw in
/-- The weight of a row of segment `g`. -/
theorem v35_value (n : Fin 16384) (g : Fin 16) (h : seg x1 n = g.val) : val_main_v35 (F := Ideal) x0 x1 x2 (ValueIdx.ix1 n)
    = ((Real.exp (score x w n - shift x0 x1 x2 g) * (1 / total (score x w) (fun _ => 1) (seg x1) g.val (shift x0 x1 x2 g)) : ℝ) : EReal) := by
  rw [val_main_v35_apply, v24_value x0 x1 x2 x w hx hw n g h]
  have e : val_main_v34 (F := Ideal) x0 x1 x2 (ValueIdx.ix1 n)
      = (total (score x w) (fun _ => 1) (seg x1) g.val (shift x0 x1 x2 g) : EReal) :=
    (Routing.gather_take1 gather_S16_S16384x1_S16384_n_0_n_n_0_1_1 rfl rfl rfl rfl _ _ n g
      (v33_value x1 n g h) (by decide)).trans (v27_value x0 x1 x2 x w hx hw g)
  rw [e]
  refine (Ideal.div_coe (Cert.Pool.total_pos _ _ _ _ n h).ne' _).trans ?_
  rw [← EReal.coe_mul]

include hx hw in
/-- The reference's result. -/
theorem value (g : Fin 16) (k : Fin 1024) : val_main_v41 (F := Ideal) x0 x1 x2 (ValueIdx.ix2 g k)
    = ((∑ n ∈ Finset.univ.filter (fun n => seg x1 n = g.val), x n k * (Real.exp (score x w n - shift x0 x1 x2 g)
      * (1 / total (score x w) (fun _ => 1) (seg x1) g.val (shift x0 x1 x2 g))) : ℝ) : EReal) := by
  show val_main_v39 (F := Ideal) (ValueIdx.ix2 g k) + ∑ j ∈ Finset.univ.filter (fun j => scatter_S16x1024_S16384x1_S16384x1024_1_0_0_1.resultIdx? j
    (val_main_v40 (F := Ideal) x1) = some (ValueIdx.ix2 g k)), val_main_v38 (F := Ideal) x0 x1 x2 j = _
  rw [val_main_v39_apply, val_main_cst_7_apply]
  rw [show (FloatOps.ofBits (F := Ideal) FTy.f32 0x00000000#32 : EReal) = 0 from Ideal.ofBits_zero_f32, zero_add, Finset.sum_filter]
  refine (sum_idx2 _).trans ?_
  rw [Finset.sum_filter, Cert.Pool.coe_sum]
  refine Finset.sum_congr rfl fun n _ => ?_
  have e : val_main_v40 (F := Ideal) x1 (ValueIdx.ix2 n (0 : Fin 1)) = x1 (ValueIdx.ix1 n) := by
    rw [val_main_v40_apply]
    refine congrArg x1 (funext fun a => ?_)
    match a with
    | ⟨0, _⟩ => rfl
  have hl : ∀ j : Fin 1024, scatter_S16x1024_S16384x1_S16384x1024_1_0_0_1.resultIdx? (ValueIdx.ix2 n j) (val_main_v40 (F := Ideal) x1)
      = some (ValueIdx.ix2 g k) ↔ seg x1 n = g.val ∧ j = k := fun j => by
    rw [lands2, e, toInt_eq x1]
  refine (Finset.sum_eq_single k (fun j _ hj => ?_) (fun hk => absurd (Finset.mem_univ k) hk)).trans ?_
  · exact if_neg fun h' => hj ((hl j).mp h').2
  · by_cases h : seg x1 n = g.val
    · refine (if_pos ((hl k).mpr ⟨h, rfl⟩)).trans ?_
      rw [if_pos h]
      show val_main_v38 (F := Ideal) x0 x1 x2 (ValueIdx.ix2 n k) = _
      rw [val_main_v38_apply, val_main_v37_apply, val_main_v36_apply]
      have e1 : idx_main_v36 (idx_main_v37 (ValueIdx.ix2 n k)) = ValueIdx.ix1 n := by
        funext a
        match a with
        | ⟨0, _⟩ => rfl
      rw [e1, v35_value x0 x1 x2 x w hx hw n g h, hx, EReal.coe_mul (x n k)]
      rfl
    · refine (if_neg (fun h' => h ((hl k).mp h').1)).trans ?_
      rw [if_neg h]
      rfl

end Cert.ReferenceIdeal.Pooled

end
-- ==== Proof.Finite.lean ====
/- What the precondition says of the arguments: every float argument's elements are real numbers; nothing is asked of the ids. -/
module

public import proofs.«01_k».proof.Proof.Gen.Pre_finite
public import proofs.«01_k».proof.Proof.ReferenceIdeal.Pooled
public import Idealize.ShloMosaic.Lib.ReduceAll

@[expose] public section

noncomputable section

namespace Cert.Pre_finite.Decoded

open Idealize.ShloMosaic Cert.Pre_finite Cert.Pre_finite.Gen

variable (x0 : S16384x1024.Idx → EReal) (x1 : IVec S16384 32) (x2 : S1x1024.Idx → EReal)
  (h : Cert.Pre_finite.fn (F := Ideal) x0 x1 x2 = fun _ => 1#1)

/-- The two reductions the precondition joins, each one. -/
theorem parts (h : Cert.Pre_finite.fn (F := Ideal) x0 x1 x2 = fun _ => 1#1) :
    (∀ i, Ideal.cmp .olt (max (x0 i) (-(x0 i))) (Ideal.ofBits FTy.f32 2139095040#32) = 1#1)
    ∧ ∀ i, Ideal.cmp .olt (max (x2 i) (-(x2 i))) (Ideal.ofBits FTy.f32 2139095040#32) = 1#1 := by
  have h0 := congrFun h (fun a => a.elim0)
  unfold Cert.Pre_finite.fn at h0
  obtain ⟨ha, hb⟩ := IntOp.andi_eq_one.mp h0
  exact ⟨fun i => Host.reduce_andi_all _ _ _ _ _ ha i, fun i => Host.reduce_andi_all _ _ _ _ _ hb i⟩

/-- The first argument's elements are real numbers. -/
theorem real0 (h : Cert.Pre_finite.fn (F := Ideal) x0 x1 x2 = fun _ => 1#1) (i) : ∃ r : ℝ, x0 i = r :=
  Cert.ReferenceIdeal.Pooled.real_of_abs_lt _ ((parts x0 x1 x2 h).1 i)

/-- The weights' elements are real numbers. -/
theorem real2 (h : Cert.Pre_finite.fn (F := Ideal) x0 x1 x2 = fun _ => 1#1) (i) : ∃ r : ℝ, x2 i = r :=
  Cert.ReferenceIdeal.Pooled.real_of_abs_lt _ ((parts x0 x1 x2 h).2 i)

end Cert.Pre_finite.Decoded

end
-- ==== Proof.Equal.lean ====
/- The equation: under the precondition the kernel's result and the reference's are the same array. -/
module

public import proofs.«01_k».proof.Proof.KernelIdeal.Value
public import proofs.«01_k».proof.Proof.ReferenceIdeal.Pooled
public import proofs.«01_k».proof.Proof.Finite

@[expose] public section

noncomputable section

namespace Cert.Equal

open Idealize.ShloMosaic Idealize.ShloMosaic.TcCoe
open Cert.KernelIdeal

/-- The kernel's result is the reference's last operation on the same arguments. -/
theorem result_eq (m : (ℓ : Loc nD τ sig) → Buf (Elt Ideal) ℓ) (c : Dev nD)
    (h : Cert.Pre_finite.fn (F := Ideal) (Run.argX m c) (Run.argId m c) (Run.argW m c) = fun _ => 1#1) :
    Run.result m c = Cert.ReferenceIdeal.Read.val_main_v41 (F := Ideal) (Run.argX m c) (Run.argId m c) (Run.argW m c) := by
  choose x hx using fun (n : Fin 16384) (k : Fin 1024) => Cert.Pre_finite.Decoded.real0 _ _ _ h (ValueIdx.ix2 n k)
  choose w hw using fun k : Fin 1024 => Cert.Pre_finite.Decoded.real2 _ _ _ h (ValueIdx.ix2 (0 : Fin 1) k)
  obtain ⟨M, hM⟩ := Run.result_value m c x w hx hw
  funext i
  obtain ⟨g, k, rfl⟩ : ∃ (g : Fin 16) (k : Fin 1024), i = ValueIdx.ix2 g k := ⟨i 0, i 1, ValueIdx.eq_ix2 i⟩
  refine (hM g k).trans (Eq.trans ?_ (Cert.ReferenceIdeal.Pooled.value _ _ _ x w hx hw g k).symm)
  exact congrArg _ (Cert.Pool.pooled_eq _ _ _ _ M _)

end Cert.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Kernel.Frame
public import proofs.«01_k».proof.Proof.KernelIdeal.Frame
public import proofs.«01_k».proof.Proof.KernelIdeal.Final
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The reference leaves its arguments unchanged; it declares no semaphore, so every counter ends at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference, from memories that agree on the arguments, end with the same result. -/
theorem algebraic : Cert.algebraic_KernelIdeal_ReferenceIdeal_pre_finite := by
  intro m ρ m' ρ' hpre hagree
  refine ⟨fun c => Cert.KernelIdeal.Run.result m c, Cert.KernelIdeal.Run.run m ρ, ?_⟩
  refine (θ_run Cert.ReferenceIdeal.defs _ _).mono (fun r h c => ⟨(h c).1.trans ?_, (h c).2⟩)
    (Cert.ReferenceIdeal.Value.run (F := Ideal) m' ρ')
  obtain ⟨h0, h1, h2⟩ := hagree c
  rw [Cert.ReferenceIdeal.Read.val_main_v41_eq, h0, h1, h2]
  exact (Cert.Equal.result_eq m c (hpre c)).symm

/-- The certificate. -/
theorem claim : Cert.Claim := ⟨Cert.Kernel.Gen.facts, Cert.KernelIdeal.Gen.facts, Cert.ReferenceIdeal.Gen.facts, Cert.Pre_finite.Gen.facts,
  fun m ρ _ => Cert.Kernel.Run.frame m ρ, fun m ρ _ => Cert.KernelIdeal.Run.frame m ρ, fun m ρ _ => Cert.KernelIdeal.Run.frame m ρ,
  frame_reference, fun m ρ _ => frame_reference m ρ trivial, trivial, algebraic⟩

end Cert.Proof

end
